-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 512]⟩ ⟨2, ![4096, 1024]⟩ (Layout.meshBlock [2, 2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S4096x512 : Shape := ⟨2, ![4096, 512]⟩
abbrev S_ : Shape := ⟨0, ![]⟩
abbrev S8 : Shape := ⟨1, ![8]⟩
abbrev S2048x512 : Shape := ⟨2, ![2048, 512]⟩
abbrev S1 : Shape := ⟨1, ![1]⟩
abbrev S128x512 : Shape := ⟨2, ![128, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x1024, .f32⟩
  | .hbm, ⟨1, _⟩ => ⟨S4096x512, .f32⟩
  | .local _ .vmem, ⟨0, _⟩ => ⟨S2048x1024, .f32⟩
  | .local _ .vmem, ⟨1, _⟩ => ⟨S4096x512, .f32⟩
  | _, _ => ⟨S2048x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2048_i32 : BitVec 32 := 2048#32
  let v12 : BitVec 32 := Scalar.muli v5 c2048_i32
  let c0_i32 : BitVec 32 := 0#32
  ![v12.toNat, 0]
def k0_off2 (d0 : Dev nD) : Fin 2 → Nat :=
  let c0_i32_5 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c512_i32 : BitVec 32 := 512#32
  let v11 : BitVec 32 := Scalar.muli v5 c512_i32
  ![0, v11.toNat]
def k0_dev1 (d0 : Dev nD) : Nat :=
  let c0_i32_8 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_7 : BitVec 32 := 4#32
  let v16 : BitVec 32 := Scalar.muli v2 c4_i32_7
  let v17 : BitVec 32 := Scalar.addi c0_i32_8 v16
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_9 : BitVec 32 := 2#32
  let v18 : BitVec 32 := Scalar.muli v9 c2_i32_9
  let v19 : BitVec 32 := Scalar.addi v17 v18
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_10 : BitVec 32 := 1#32
  let v20 : BitVec 32 := Scalar.muli v8 c1_i32_10
  let v21 : BitVec 32 := Scalar.addi v19 v20
  v21.toNat
def k0_dev2 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v22 : BitVec 32 := Scalar.muli v2 c4_i32_12
  let v23 : BitVec 32 := Scalar.addi c0_i32_13 v22
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v24 : BitVec 32 := Scalar.muli v5 c2_i32_14
  let v25 : BitVec 32 := Scalar.addi v23 v24
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_15 : BitVec 32 := 1#32
  let v26 : BitVec 32 := Scalar.muli v10 c1_i32_15
  let v27 : BitVec 32 := Scalar.addi v25 v26
  v27.toNat
def k0_off3 (d0 : Dev nD) (c0_i32_22 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2048_i32_17 : BitVec 32 := 2048#32
  let v29 : BitVec 32 := Scalar.muli v5 c2048_i32_17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_18 : BitVec 32 := 1024#32
  let v30 : BitVec 32 := Scalar.muli v8 c1024_i32_18
  let v31 : BitVec 32 := Scalar.addi v29 v30
  let v35 : BitVec 32 := Scalar.addi v31 c0_i32_22
  let c0_i32_29 : BitVec 32 := 0#32
  ![v35.toNat, 0]
def k0_off4 (d0 : Dev nD) (c0_i32_19 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v28 : BitVec 32 := Scalar.muli v8 c1024_i32
  let v32 : BitVec 32 := Scalar.addi v28 c0_i32_19
  let c1_i32_20 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v33 : BitVec 32 := Scalar.subi c1_i32_20 v5
  let c512_i32_21 : BitVec 32 := 512#32
  let v34 : BitVec 32 := Scalar.muli v33 c512_i32_21
  ![v32.toNat, v34.toNat]
def k0_dev3 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v36 : BitVec 32 := Scalar.muli v2 c4_i32_25
  let v37 : BitVec 32 := Scalar.addi c0_i32_26 v36
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_27 : BitVec 32 := 2#32
  let v38 : BitVec 32 := Scalar.muli v9 c2_i32_27
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v40 : BitVec 32 := Scalar.muli v8 c1_i32_28
  let v41 : BitVec 32 := Scalar.addi v39 v40
  v41.toNat
def k0_dev4 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v52 : BitVec 32 := Scalar.muli v2 c4_i32_35
  let v53 : BitVec 32 := Scalar.addi c0_i32_36 v52
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_37 : BitVec 32 := 2#32
  let v54 : BitVec 32 := Scalar.muli v9 c2_i32_37
  let v55 : BitVec 32 := Scalar.addi v53 v54
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_38 : BitVec 32 := 1#32
  let v56 : BitVec 32 := Scalar.muli v8 c1_i32_38
  let v57 : BitVec 32 := Scalar.addi v55 v56
  v57.toNat
def k0_dev5 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_45 : BitVec 32 := 4#32
  let v68 : BitVec 32 := Scalar.muli v2 c4_i32_45
  let v69 : BitVec 32 := Scalar.addi c0_i32_46 v68
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_47 : BitVec 32 := 2#32
  let v70 : BitVec 32 := Scalar.muli v9 c2_i32_47
  let v71 : BitVec 32 := Scalar.addi v69 v70
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v72 : BitVec 32 := Scalar.muli v8 c1_i32_48
  let v73 : BitVec 32 := Scalar.addi v71 v72
  v73.toNat
def k0_dev6 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_54 : BitVec 32 := 4#32
  let v84 : BitVec 32 := Scalar.muli v2 c4_i32_54
  let v85 : BitVec 32 := Scalar.addi c0_i32_55 v84
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_56 : BitVec 32 := 2#32
  let v86 : BitVec 32 := Scalar.muli v9 c2_i32_56
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_57 : BitVec 32 := 1#32
  let v88 : BitVec 32 := Scalar.muli v8 c1_i32_57
  let v89 : BitVec 32 := Scalar.addi v87 v88
  v89.toNat
def k0_dev7 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v100 : BitVec 32 := Scalar.muli v2 c4_i32_65
  let v101 : BitVec 32 := Scalar.addi c0_i32_66 v100
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_67 : BitVec 32 := 2#32
  let v102 : BitVec 32 := Scalar.muli v9 c2_i32_67
  let v103 : BitVec 32 := Scalar.addi v101 v102
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v104 : BitVec 32 := Scalar.muli v8 c1_i32_68
  let v105 : BitVec 32 := Scalar.addi v103 v104
  v105.toNat
def k0_dev8 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v116 : BitVec 32 := Scalar.muli v2 c4_i32_74
  let v117 : BitVec 32 := Scalar.addi c0_i32_75 v116
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_76 : BitVec 32 := 2#32
  let v118 : BitVec 32 := Scalar.muli v9 c2_i32_76
  let v119 : BitVec 32 := Scalar.addi v117 v118
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v120 : BitVec 32 := Scalar.muli v8 c1_i32_77
  let v121 : BitVec 32 := Scalar.addi v119 v120
  v121.toNat
def k0_dev9 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v132 : BitVec 32 := Scalar.muli v2 c4_i32_83
  let v133 : BitVec 32 := Scalar.addi c0_i32_84 v132
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_85 : BitVec 32 := 2#32
  let v134 : BitVec 32 := Scalar.muli v9 c2_i32_85
  let v135 : BitVec 32 := Scalar.addi v133 v134
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v136 : BitVec 32 := Scalar.muli v8 c1_i32_86
  let v137 : BitVec 32 := Scalar.addi v135 v136
  v137.toNat
def k0_dev10 (d0 : Dev nD) : Nat :=
  let c0_i32_93 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_92 : BitVec 32 := 4#32
  let v148 : BitVec 32 := Scalar.muli v2 c4_i32_92
  let v149 : BitVec 32 := Scalar.addi c0_i32_93 v148
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_94 : BitVec 32 := 2#32
  let v150 : BitVec 32 := Scalar.muli v9 c2_i32_94
  let v151 : BitVec 32 := Scalar.addi v149 v150
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_95 : BitVec 32 := 1#32
  let v152 : BitVec 32 := Scalar.muli v8 c1_i32_95
  let v153 : BitVec 32 := Scalar.addi v151 v152
  v153.toNat
def k0_off5 (d0 : Dev nD) (c0_i32_108 : BitVec 32) : Fin 2 → Nat :=
  let c1_i32_97 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v160 : BitVec 32 := Scalar.subi c1_i32_97 v5
  let c2048_i32_98 : BitVec 32 := 2048#32
  let v161 : BitVec 32 := Scalar.muli v160 c2048_i32_98
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_99 : BitVec 32 := 1024#32
  let v162 : BitVec 32 := Scalar.muli v8 c1024_i32_99
  let v163 : BitVec 32 := Scalar.addi v161 v162
  let v175 : BitVec 32 := Scalar.addi v163 c0_i32_108
  let c0_i32_115 : BitVec 32 := 0#32
  ![v175.toNat, 0]
def k0_dev11 (d0 : Dev nD) : Nat :=
  let c0_i32_112 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_111 : BitVec 32 := 4#32
  let v176 : BitVec 32 := Scalar.muli v2 c4_i32_111
  let v177 : BitVec 32 := Scalar.addi c0_i32_112 v176
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_113 : BitVec 32 := 2#32
  let v178 : BitVec 32 := Scalar.muli v5 c2_i32_113
  let v179 : BitVec 32 := Scalar.addi v177 v178
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_114 : BitVec 32 := 1#32
  let v180 : BitVec 32 := Scalar.muli v10 c1_i32_114
  let v181 : BitVec 32 := Scalar.addi v179 v180
  v181.toNat
def k0_dev12 (d0 : Dev nD) : Nat :=
  let c0_i32_129 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_128 : BitVec 32 := 4#32
  let v200 : BitVec 32 := Scalar.muli v2 c4_i32_128
  let v201 : BitVec 32 := Scalar.addi c0_i32_129 v200
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_130 : BitVec 32 := 2#32
  let v202 : BitVec 32 := Scalar.muli v5 c2_i32_130
  let v203 : BitVec 32 := Scalar.addi v201 v202
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_131 : BitVec 32 := 1#32
  let v204 : BitVec 32 := Scalar.muli v10 c1_i32_131
  let v205 : BitVec 32 := Scalar.addi v203 v204
  v205.toNat
def k0_dev13 (d0 : Dev nD) : Nat :=
  let c0_i32_146 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_145 : BitVec 32 := 4#32
  let v224 : BitVec 32 := Scalar.muli v2 c4_i32_145
  let v225 : BitVec 32 := Scalar.addi c0_i32_146 v224
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_147 : BitVec 32 := 2#32
  let v226 : BitVec 32 := Scalar.muli v5 c2_i32_147
  let v227 : BitVec 32 := Scalar.addi v225 v226
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_148 : BitVec 32 := 1#32
  let v228 : BitVec 32 := Scalar.muli v10 c1_i32_148
  let v229 : BitVec 32 := Scalar.addi v227 v228
  v229.toNat
def k0_dev14 (d0 : Dev nD) : Nat :=
  let c0_i32_163 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_162 : BitVec 32 := 4#32
  let v248 : BitVec 32 := Scalar.muli v2 c4_i32_162
  let v249 : BitVec 32 := Scalar.addi c0_i32_163 v248
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_164 : BitVec 32 := 2#32
  let v250 : BitVec 32 := Scalar.muli v5 c2_i32_164
  let v251 : BitVec 32 := Scalar.addi v249 v250
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_165 : BitVec 32 := 1#32
  let v252 : BitVec 32 := Scalar.muli v10 c1_i32_165
  let v253 : BitVec 32 := Scalar.addi v251 v252
  v253.toNat
def k0_dev15 (d0 : Dev nD) : Nat :=
  let c0_i32_180 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_179 : BitVec 32 := 4#32
  let v272 : BitVec 32 := Scalar.muli v2 c4_i32_179
  let v273 : BitVec 32 := Scalar.addi c0_i32_180 v272
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_181 : BitVec 32 := 2#32
  let v274 : BitVec 32 := Scalar.muli v5 c2_i32_181
  let v275 : BitVec 32 := Scalar.addi v273 v274
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_182 : BitVec 32 := 1#32
  let v276 : BitVec 32 := Scalar.muli v10 c1_i32_182
  let v277 : BitVec 32 := Scalar.addi v275 v276
  v277.toNat
def k0_dev16 (d0 : Dev nD) : Nat :=
  let c0_i32_197 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_196 : BitVec 32 := 4#32
  let v296 : BitVec 32 := Scalar.muli v2 c4_i32_196
  let v297 : BitVec 32 := Scalar.addi c0_i32_197 v296
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_198 : BitVec 32 := 2#32
  let v298 : BitVec 32 := Scalar.muli v5 c2_i32_198
  let v299 : BitVec 32 := Scalar.addi v297 v298
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_199 : BitVec 32 := 1#32
  let v300 : BitVec 32 := Scalar.muli v10 c1_i32_199
  let v301 : BitVec 32 := Scalar.addi v299 v300
  v301.toNat
def k0_dev17 (d0 : Dev nD) : Nat :=
  let c0_i32_214 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_213 : BitVec 32 := 4#32
  let v320 : BitVec 32 := Scalar.muli v2 c4_i32_213
  let v321 : BitVec 32 := Scalar.addi c0_i32_214 v320
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_215 : BitVec 32 := 2#32
  let v322 : BitVec 32 := Scalar.muli v5 c2_i32_215
  let v323 : BitVec 32 := Scalar.addi v321 v322
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_216 : BitVec 32 := 1#32
  let v324 : BitVec 32 := Scalar.muli v10 c1_i32_216
  let v325 : BitVec 32 := Scalar.addi v323 v324
  v325.toNat
def k0_dev18 (d0 : Dev nD) : Nat :=
  let c0_i32_231 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_230 : BitVec 32 := 4#32
  let v344 : BitVec 32 := Scalar.muli v2 c4_i32_230
  let v345 : BitVec 32 := Scalar.addi c0_i32_231 v344
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_232 : BitVec 32 := 2#32
  let v346 : BitVec 32 := Scalar.muli v5 c2_i32_232
  let v347 : BitVec 32 := Scalar.addi v345 v346
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_233 : BitVec 32 := 1#32
  let v348 : BitVec 32 := Scalar.muli v10 c1_i32_233
  let v349 : BitVec 32 := Scalar.addi v347 v348
  v349.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x1024 : Shape := ⟨2, ![4096, 1024]⟩

abbrev nBuf : Space → Nat
  | .hbm => 1
  | .vmem => 0
  | .smem => 0
  | _ => 0

abbrev bufTy : (tb : Table) → Fin (tcTables nBuf tb) → BufTy
  | .hbm, ⟨0, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.KernelIdeal.Places.lean ====
/- Devices, element sets and contents of the all-to-all over `y` on the 2 x 2 x 2 mesh.
   Device `c` has coordinates `x = c / 4`, `y = (c / 2) % 2`, `z = c % 2`. It exchanges its block's other column half with
   its `y` neighbour, each of the two `z` lines sending one half of the rows in eight chunks, and relays what it received
   to its `z` neighbour. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelIdeal.AllToAll

open Cert.KernelIdeal Cert.KernelIdeal.Gen

open Idealize.ShloMosaic
open Idealize.ShloMosaic.TcCoe

variable {F : FTy → Type} [FloatOps F]

/-! ## Neighbours -/

set_option backward.proofsInPublic true in
/-- The neighbour along `y`. -/
def ypeer (c : Dev nD) : Dev nD := ⟨(4 * (c.val / 4) + (c.val % 2) + 2) - 2 * ((c.val / 2) % 2), by
  have h : c.val < 8 := c.isLt
  show _ < 8
  omega⟩
set_option backward.proofsInPublic true in
/-- The neighbour along `z`. -/
def zpeer (c : Dev nD) : Dev nD := ⟨(4 * (c.val / 4) + 2 * ((c.val / 2) % 2) + 1) - (c.val % 2), by
  have h : c.val < 8 := c.isLt
  show _ < 8
  omega⟩

theorem ypeer_val (c : Dev nD) : (ypeer c).val = (4 * (c.val / 4) + (c.val % 2) + 2) - 2 * ((c.val / 2) % 2) := rfl
theorem zpeer_val (c : Dev nD) : (zpeer c).val = (4 * (c.val / 4) + 2 * ((c.val / 2) % 2) + 1) - (c.val % 2) := rfl
theorem ypeer_ypeer (c : Dev nD) : ypeer (ypeer c) = c := Fin.ext (by rw [ypeer_val, ypeer_val]; omega)
theorem zpeer_zpeer (c : Dev nD) : zpeer (zpeer c) = c := Fin.ext (by rw [zpeer_val, zpeer_val]; omega)

/-- Swapping every device with its `y` neighbour, with its `z` neighbour. -/
def yswap : Dev nD ≃ Dev nD := ⟨ypeer, ypeer, ypeer_ypeer, ypeer_ypeer⟩
def zswap : Dev nD ≃ Dev nD := ⟨zpeer, zpeer, zpeer_zpeer, zpeer_zpeer⟩

/-- The device chunk `r` of the `y` exchange is sent to, as the kernel computes it. -/
def yDev (c : Dev nD) : Fin 8 → Dev nD
  | 0 => ⟨k0_dev3 c, k0_dev3_lt c⟩ | 1 => ⟨k0_dev4 c, k0_dev4_lt c⟩ | 2 => ⟨k0_dev5 c, k0_dev5_lt c⟩ | 3 => ⟨k0_dev6 c, k0_dev6_lt c⟩
  | 4 => ⟨k0_dev7 c, k0_dev7_lt c⟩ | 5 => ⟨k0_dev8 c, k0_dev8_lt c⟩ | 6 => ⟨k0_dev9 c, k0_dev9_lt c⟩ | 7 => ⟨k0_dev10 c, k0_dev10_lt c⟩
/-- The device chunk `r` of the relay is sent to, as the kernel computes it. -/
def zDev (c : Dev nD) : Fin 8 → Dev nD
  | 0 => ⟨k0_dev11 c, k0_dev11_lt c⟩ | 1 => ⟨k0_dev12 c, k0_dev12_lt c⟩ | 2 => ⟨k0_dev13 c, k0_dev13_lt c⟩ | 3 => ⟨k0_dev14 c, k0_dev14_lt c⟩
  | 4 => ⟨k0_dev15 c, k0_dev15_lt c⟩ | 5 => ⟨k0_dev16 c, k0_dev16_lt c⟩ | 6 => ⟨k0_dev17 c, k0_dev17_lt c⟩ | 7 => ⟨k0_dev18 c, k0_dev18_lt c⟩

/-- The first signal goes to the `y` neighbour, the second to the `z` neighbour. -/
theorem dev1_eq (c : Dev nD) : (⟨k0_dev1 c, k0_dev1_lt c⟩ : Dev nD) = ypeer c := Fin.ext (k0_dev1_eq c)
theorem dev2_eq (c : Dev nD) : (⟨k0_dev2 c, k0_dev2_lt c⟩ : Dev nD) = zpeer c := Fin.ext (k0_dev2_eq c)
/-- Every chunk of the exchange goes to the `y` neighbour. -/
theorem yDev_eq (c : Dev nD) : ∀ r, yDev c r = ypeer c
  | 0 => Fin.ext (k0_dev3_eq c) | 1 => Fin.ext (k0_dev4_eq c) | 2 => Fin.ext (k0_dev5_eq c) | 3 => Fin.ext (k0_dev6_eq c)
  | 4 => Fin.ext (k0_dev7_eq c) | 5 => Fin.ext (k0_dev8_eq c) | 6 => Fin.ext (k0_dev9_eq c) | 7 => Fin.ext (k0_dev10_eq c)
/-- Every relayed chunk goes to the `z` neighbour. -/
theorem zDev_eq (c : Dev nD) : ∀ r, zDev c r = zpeer c
  | 0 => Fin.ext (k0_dev11_eq c) | 1 => Fin.ext (k0_dev12_eq c) | 2 => Fin.ext (k0_dev13_eq c) | 3 => Fin.ext (k0_dev14_eq c)
  | 4 => Fin.ext (k0_dev15_eq c) | 5 => Fin.ext (k0_dev16_eq c) | 6 => Fin.ext (k0_dev17_eq c) | 7 => Fin.ext (k0_dev18_eq c)

/-! ## Memrefs -/

/-- The staged block of `x`, and the staged result. -/
abbrev xM : Memref sig .tc .vmem S2048x1024 .f32 := Memref.whole cc0_stg0_0
abbrev oM : Memref sig .tc .vmem S4096x512 .f32 := Memref.whole cc0_stg1_0

/-- Row chunk `r` as the word the kernel computes its offsets from. -/
abbrev cw (r : Fin 8) : BitVec 32 := BitVec.ofNat 32 (128 * r.val)

/-- The local copy's source: the block's own column half; -/
abbrev lSrc (c : Dev nD) : Memref sig .tc .vmem S2048x512 .f32 :=
  xM.slice (Rect.unit (s := S2048x1024) (k0_off2 c) S2048x512.size (k0_off2_inb c)) (fun _ => rfl)
/-- its destination: the result's own row block. -/
abbrev lDst (c : Dev nD) : Memref sig .tc .vmem S2048x512 .f32 :=
  oM.slice (Rect.unit (s := S4096x512) (k0_off1 c) S2048x512.size (k0_off1_inb c)) (fun _ => rfl)
/-- Chunk `r` of the exchange: its source, rows of the other column half; -/
abbrev ySrc (c : Dev nD) (r : Fin 8) : Memref sig .tc .vmem S128x512 .f32 :=
  xM.slice (Rect.unit (s := S2048x1024) (k0_off4 c (cw r)) S128x512.size (k0_off4_inb c r)) (fun _ => rfl)
/-- its destination on the `y` neighbour. -/
abbrev yDst (c : Dev nD) (r : Fin 8) : Memref sig .tc .vmem S128x512 .f32 :=
  oM.slice (Rect.unit (s := S4096x512) (k0_off3 c (cw r)) S128x512.size (k0_off3_inb c r)) (fun _ => rfl)
/-- Chunk `r` that `c` receives from its `y` neighbour and relays to the same rows of its `z` neighbour. -/
abbrev hold (c : Dev nD) (r : Fin 8) : Memref sig .tc .vmem S128x512 .f32 :=
  oM.slice (Rect.unit (s := S4096x512) (k0_off5 c (cw r)) S128x512.size (k0_off5_inb c r)) (fun _ => rfl)

/-! ## Which elements each of them names -/

/-- What holds of both axes of a rank-2 array holds of every axis. -/
theorem both_axes {P : Fin 2 → Prop} (h0 : P 0) (h1 : P 1) : ∀ a, P a := fun a => by
  fin_cases a
  · exact h0
  · exact h1

section Members
variable (c : Dev nD)

theorem mem_lSrc (i : S2048x1024.Idx) :
    i ∈ (lSrc c).view.set ↔ 512 * ((c.val / 2) % 2) ≤ (i 1).val ∧ (i 1).val < 512 * ((c.val / 2) % 2) + 512 := by
  have h0 : (i 0).val < 2048 := (i 0).isLt
  rw [show (lSrc c).view.set = (Rect.unit (s := S2048x1024) (k0_off2 c) S2048x512.size (k0_off2_inb c)).set from View.set_slice_whole _ _,
    Rect.mem_set_unit, k0_off2_eq]
  exact ⟨fun h => h 1, fun h => both_axes ⟨Nat.zero_le _, by show (i 0).val < 0 + 2048; omega⟩ h⟩
theorem mem_lDst (i : S4096x512.Idx) :
    i ∈ (lDst c).view.set ↔ 2048 * ((c.val / 2) % 2) ≤ (i 0).val ∧ (i 0).val < 2048 * ((c.val / 2) % 2) + 2048 := by
  have h1 : (i 1).val < 512 := (i 1).isLt
  rw [show (lDst c).view.set = (Rect.unit (s := S4096x512) (k0_off1 c) S2048x512.size (k0_off1_inb c)).set from View.set_slice_whole _ _,
    Rect.mem_set_unit, k0_off1_eq]
  exact ⟨fun h => h 0, fun h => both_axes h ⟨Nat.zero_le _, by show (i 1).val < 0 + 512; omega⟩⟩
theorem mem_ySrc (r : Fin 8) (i : S2048x1024.Idx) :
    i ∈ (ySrc c r).view.set ↔ (1024 * (c.val % 2) + 128 * r.val ≤ (i 0).val ∧ (i 0).val < 1024 * (c.val % 2) + 128 * r.val + 128)
      ∧ (512 - 512 * ((c.val / 2) % 2) ≤ (i 1).val ∧ (i 1).val < 512 - 512 * ((c.val / 2) % 2) + 512) := by
  rw [show (ySrc c r).view.set = (Rect.unit (s := S2048x1024) (k0_off4 c (cw r)) S128x512.size (k0_off4_inb c r)).set from View.set_slice_whole _ _,
    Rect.mem_set_unit, k0_off4_eq]
  exact ⟨fun h => ⟨h 0, h 1⟩, fun h => both_axes h.1 h.2⟩
theorem mem_hold (r : Fin 8) (i : S4096x512.Idx) :
    i ∈ (hold c r).view.set ↔ (1024 * (c.val % 2) + 128 * r.val + 2048) - 2048 * ((c.val / 2) % 2) ≤ (i 0).val
      ∧ (i 0).val < (1024 * (c.val % 2) + 128 * r.val + 2048) - 2048 * ((c.val / 2) % 2) + 128 := by
  have h1 : (i 1).val < 512 := (i 1).isLt
  rw [show (hold c r).view.set = (Rect.unit (s := S4096x512) (k0_off5 c (cw r)) S128x512.size (k0_off5_inb c r)).set from View.set_slice_whole _ _,
    Rect.mem_set_unit, k0_off5_eq]
  exact ⟨fun h => h 0, fun h => both_axes h ⟨Nat.zero_le _, by show (i 1).val < 0 + 512; omega⟩⟩

/-- The exchange's destination on the `y` neighbour is the chunk that neighbour holds. -/
theorem yDst_set (r : Fin 8) : (yDst c r).view.set = (hold (ypeer c) r).view.set := by
  have hv := ypeer_val c
  ext i
  have h1 : (i 1).val < 512 := (i 1).isLt
  rw [mem_hold, show (yDst c r).view.set = (Rect.unit (s := S4096x512) (k0_off3 c (cw r)) S128x512.size (k0_off3_inb c r)).set from View.set_slice_whole _ _,
    Rect.mem_set_unit, k0_off3_eq]
  constructor
  · intro h
    have h0 : 2048 * ((c.val / 2) % 2) + 1024 * (c.val % 2) + 128 * r.val ≤ (i 0).val
      ∧ (i 0).val < 2048 * ((c.val / 2) % 2) + 1024 * (c.val % 2) + 128 * r.val + 128 := h 0
    omega
  · intro h
    have h0 : 2048 * ((c.val / 2) % 2) + 1024 * (c.val % 2) + 128 * r.val ≤ (i 0).val
      ∧ (i 0).val < 2048 * ((c.val / 2) % 2) + 1024 * (c.val % 2) + 128 * r.val + 128 := by omega
    exact both_axes h0 ⟨Nat.zero_le _, by show (i 1).val < 0 + 512; omega⟩

theorem hold_disjoint (r r' : Fin 8) (h : r ≠ r') : Disjoint (hold c r).view.set (hold c r').view.set := by
  rw [Finset.disjoint_left]
  intro i hi hi'
  rw [mem_hold] at hi hi'
  exact h (Fin.ext (by omega))
theorem ySrc_disjoint (r r' : Fin 8) (h : r ≠ r') : Disjoint (ySrc c r).view.set (ySrc c r').view.set := by
  rw [Finset.disjoint_left]
  intro i hi hi'
  rw [mem_ySrc] at hi hi'
  exact h (Fin.ext (by omega))

/-- All rows `c` receives from its `y` neighbour. -/
def holds : Finset S4096x512.Idx := Finset.univ.biUnion fun r => (hold c r).view.set
/-- All of `x` that `c` sends. -/
def sent : Finset S2048x1024.Idx := Finset.univ.biUnion fun r => (ySrc c r).view.set

theorem mem_holds (i : S4096x512.Idx) :
    i ∈ holds c ↔ (1024 * (c.val % 2) + 2048) - 2048 * ((c.val / 2) % 2) ≤ (i 0).val
      ∧ (i 0).val < (1024 * (c.val % 2) + 2048) - 2048 * ((c.val / 2) % 2) + 1024 := by
  constructor
  · intro hi
    obtain ⟨r, -, h⟩ := Finset.mem_biUnion.1 hi
    have h := (mem_hold c r i).1 h
    have hr := r.isLt
    omega
  · intro h
    refine Finset.mem_biUnion.2 ⟨⟨((i 0).val - ((1024 * (c.val % 2) + 2048) - 2048 * ((c.val / 2) % 2))) / 128, by omega⟩, Finset.mem_univ _, ?_⟩
    refine (mem_hold c _ i).2 ?_
    dsimp only
    omega

/-- The result is its own row block, the rows received from the `y` neighbour and those relayed by the `z` neighbour, -/
theorem out_cover : (lDst c).view.set ∪ (holds c ∪ holds (zpeer c)) = (Finset.univ : Finset S4096x512.Idx) := by
  have hv := zpeer_val c
  refine Finset.eq_univ_of_forall fun i => ?_
  have h0 : (i 0).val < 4096 := (i 0).isLt
  refine Finset.mem_union.2 (Or.imp (mem_lDst c i).2 (fun h => Finset.mem_union.2 (Or.imp (mem_holds c i).2 (mem_holds (zpeer c) i).2 h)) ?_)
  omega
/-- and the three do not overlap. -/
theorem out_disjoint₁ : Disjoint (lDst c).view.set (holds c ∪ holds (zpeer c)) := by
  have hv := zpeer_val c
  rw [Finset.disjoint_left]
  intro i hi hi'
  have h := (mem_lDst c i).1 hi
  have h' := (Finset.mem_union.1 hi').imp (mem_holds c i).1 (mem_holds (zpeer c) i).1
  omega
theorem out_disjoint₂ : Disjoint (holds c) (holds (zpeer c)) := by
  have hv := zpeer_val c
  rw [Finset.disjoint_left]
  intro i hi hi'
  have h := (mem_holds c i).1 hi
  have h' := (mem_holds (zpeer c) i).1 hi'
  omega
/-- What is sent lies in the other column half. -/
theorem sent_subset : sent c ⊆ Finset.univ \ (lSrc c).view.set := by
  intro i hi
  obtain ⟨r, -, hr⟩ := Finset.mem_biUnion.1 hi
  have hr := (mem_ySrc c r i).1 hr
  refine Finset.mem_sdiff.2 ⟨Finset.mem_univ _, fun h => ?_⟩
  have h := (mem_lSrc c i).1 h
  omega

end Members

/-! ## Contents -/

/-- The device whose block row `row` of `c`'s result comes from. -/
def srcDev (c : Dev nD) (row : ℕ) : Dev nD :=
  ⟨4 * (c.val / 4) + 2 * ((row / 2048) % 2) + (if row / 2048 = (c.val / 2) % 2 then c.val % 2 else (row % 2048) / 1024), by
    have h : c.val < 8 := c.isLt
    show _ < 8
    split <;> omega⟩
theorem srcDev_val (c : Dev nD) (row : ℕ) : (srcDev c row).val
    = 4 * (c.val / 4) + 2 * ((row / 2048) % 2) + (if row / 2048 = (c.val / 2) % 2 then c.val % 2 else (row % 2048) / 1024) := rfl
/-- Where in that block element `i` of the result is. -/
def srcIdx (c : Dev nD) (i : S4096x512.Idx) : S2048x1024.Idx :=
  Shape.pair (⟨(i 0).val % 2048, by show _ < 2048; omega⟩ : Fin 2048) (⟨512 * ((c.val / 2) % 2) + (i 1).val, by
    have h : (i 1).val < 512 := (i 1).isLt
    show _ < 1024
    omega⟩ : Fin 1024)

/-- The result on device `c`, the devices' blocks being `X`. -/
def outOf {α : Type} (X : Dev nD → S2048x1024.Idx → α) (c : Dev nD) : S4096x512.Idx → α := fun i => X (srcDev c (i 0).val) (srcIdx c i)

theorem outOf_eq {α : Type} (X : Dev nD → S2048x1024.Idx → α) (c d : Dev nD) (i : S4096x512.Idx) (p : S2048x1024.Idx)
    (hd : (srcDev c (i 0).val).val = d.val) (h0 : (i 0).val % 2048 = (p 0).val) (h1 : 512 * ((c.val / 2) % 2) + (i 1).val = (p 1).val) :
    outOf X c i = X d p := by
  unfold outOf
  have e : srcIdx c i = p := by
    funext a
    fin_cases a
    · exact Fin.ext h0
    · exact Fin.ext h1
  rw [Fin.ext hd, e]

/-- The local copy carries the result's own row block. -/
theorem out_local {α : Type} (X : Dev nD → S2048x1024.Idx → α) (c : Dev nD) (j : S2048x512.Idx) :
    X c ((lSrc c).view.emb j) = outOf X c ((lDst c).view.emb j) := by
  have b0 : (j 0).val < 2048 := (j 0).isLt
  have e0 : (((lDst c).view.emb j) 0).val = k0_off1 c 0 + 1 * (j 0).val := rfl
  have e1 : (((lDst c).view.emb j) 1).val = k0_off1 c 1 + 1 * (j 1).val := rfl
  have f0 : (((lSrc c).view.emb j) 0).val = k0_off2 c 0 + 1 * (j 0).val := rfl
  have f1 : (((lSrc c).view.emb j) 1).val = k0_off2 c 1 + 1 * (j 1).val := rfl
  have g0 : k0_off1 c 0 = 2048 * ((c.val / 2) % 2) := congrFun (k0_off1_eq c) 0
  have g1 : k0_off1 c 1 = 0 := congrFun (k0_off1_eq c) 1
  have g2 : k0_off2 c 0 = 0 := congrFun (k0_off2_eq c) 0
  have g3 : k0_off2 c 1 = 512 * ((c.val / 2) % 2) := congrFun (k0_off2_eq c) 1
  refine (outOf_eq X c c _ _ ?_ ?_ ?_).symm
  · rw [srcDev_val, e0, g0, if_pos (by omega)]; omega
  · rw [e0, f0, g0, g2]; omega
  · rw [e1, f1, g1, g3]; omega

/-- Chunk `r` of the exchange carries rows of the `y` neighbour's result. -/
theorem out_exchange {α : Type} (X : Dev nD → S2048x1024.Idx → α) (c : Dev nD) (r : Fin 8) (j : S128x512.Idx) :
    X c ((ySrc c r).view.emb j) = outOf X (ypeer c) ((yDst c r).view.emb j) := by
  have hv := ypeer_val c
  have hr := r.isLt
  have b0 : (j 0).val < 128 := (j 0).isLt
  have e0 : (((yDst c r).view.emb j) 0).val = k0_off3 c (cw r) 0 + 1 * (j 0).val := rfl
  have e1 : (((yDst c r).view.emb j) 1).val = k0_off3 c (cw r) 1 + 1 * (j 1).val := rfl
  have f0 : (((ySrc c r).view.emb j) 0).val = k0_off4 c (cw r) 0 + 1 * (j 0).val := rfl
  have f1 : (((ySrc c r).view.emb j) 1).val = k0_off4 c (cw r) 1 + 1 * (j 1).val := rfl
  have g0 : k0_off3 c (cw r) 0 = 2048 * ((c.val / 2) % 2) + 1024 * (c.val % 2) + 128 * r.val := congrFun (k0_off3_eq c r) 0
  have g1 : k0_off3 c (cw r) 1 = 0 := congrFun (k0_off3_eq c r) 1
  have g2 : k0_off4 c (cw r) 0 = 1024 * (c.val % 2) + 128 * r.val := congrFun (k0_off4_eq c r) 0
  have g3 : k0_off4 c (cw r) 1 = 512 - 512 * ((c.val / 2) % 2) := congrFun (k0_off4_eq c r) 1
  refine (outOf_eq X (ypeer c) c _ _ ?_ ?_ ?_).symm
  · rw [srcDev_val, e0, g0, if_neg (by omega)]; omega
  · rw [e0, f0, g0, g2]; omega
  · rw [e1, f1, g1, g3]; omega

/-- A relayed chunk is the same in both `z` neighbours' results. -/
theorem out_relay {α : Type} (X : Dev nD → S2048x1024.Idx → α) (c : Dev nD) (r : Fin 8) (i : S4096x512.Idx) (hi : i ∈ (hold c r).view.set) :
    outOf X c i = outOf X (zpeer c) i := by
  have hv := zpeer_val c
  have hr := r.isLt
  rw [mem_hold] at hi
  refine (outOf_eq X (zpeer c) (srcDev c (i 0).val) i (srcIdx c i) ?_ rfl ?_).symm
  · rw [srcDev_val, srcDev_val, if_neg (by omega), if_neg (by omega)]; omega
  · show _ = 512 * ((c.val / 2) % 2) + (i 1).val
    omega

end Cert.KernelIdeal.AllToAll

end
-- ==== Proof.KernelIdeal.Phases.lean ====
/- The kernel's operations in phases: a local copy and the handshake, eight sends to the `y` neighbour, eight receptions each
   relayed to the `z` neighbour, and the waits for everything in flight. The sixteen sends and the thirty-two waits are
   written once, as recursions over the list of chunks. -/
module

public import proofs.«01_k».proof.Proof.KernelIdeal.Places

@[expose] public section

noncomputable section

namespace Cert.KernelIdeal.AllToAll

open Cert.KernelIdeal Cert.KernelIdeal.Gen

open Idealize.ShloMosaic
open Idealize.ShloMosaic.TcCoe
open Idealize.SL.Sem

variable {F : FTy → Type} [FloatOps F]

/-! ## Semaphores -/

/-- The barrier semaphore of the handshake. -/
abbrev barS : Sem sig := (SemArray.scalar (sig.barrier 0 rfl) : Sems sig S_).sem
/-- The local copy's semaphore. -/
abbrev locS : DmaSem sig := cc0_scratch0.sem
/-- Chunk `r`'s semaphore of group `g`: 0 sent to `y`, 1 received from `y`, 2 relayed to `z`, 3 received from `z`. -/
def chunkS (g : Fin 4) (r : Fin 8) : DmaSem sig := ⟨3 + 8 * g.val + r.val, by
  have := g.isLt
  have := r.isLt
  show _ < 35
  omega⟩

theorem chunkS_val (g : Fin 4) (r : Fin 8) : (chunkS g r).val = 3 + 8 * g.val + r.val := rfl
theorem locS_val : locS.val = 2 := rfl

/-! ## Phases -/

/-- All chunks, in the kernel's order. -/
abbrev chunks : List (Fin 8) := [0, 1, 2, 3, 4, 5, 6, 7]

/-- The programs of the kernel's core. -/
abbrev CoreProg (F : FTy → Type) [FloatOps F] : Type 1 := Prog (TpuEff nD τ sig (Elt F) Λ₀ .tc) PUnit

/-- Send the chunks `rs` to the `y` neighbour, then `k`. -/
def sendsY (c : Dev nD) : List (Fin 8) → CoreProg F → CoreProg F
  | [], k => k
  | r :: rs, k => .op (.enqueueDma (ySrc c r) (.remote (Dev.tc (yDev c r)) (yDst c r) (.dma (chunkS 0 r))) (.dma (chunkS 1 r))
      (View.wordExact_bits rfl) (View.wordExact_bits rfl) ⟨⟨rfl, Or.inl rfl⟩, trivial⟩) fun _ => sendsY c rs k

/-- For each chunk of `rs`: wait until it has arrived from the `y` neighbour and relay it to the `z` neighbour; then `k`. -/
def relays (c : Dev nD) : List (Fin 8) → CoreProg F → CoreProg F
  | [], k => k
  | r :: rs, k => .op (.waitDma2 (chunkS 1 r) (ySrc c r) (yDst c r) (View.wordExact_bits rfl) (View.wordExact_bits rfl)) fun _ =>
      .op (.enqueueDma (hold c r) (.remote (Dev.tc (zDev c r)) (hold c r) (.dma (chunkS 2 r))) (.dma (chunkS 3 r))
        (View.wordExact_bits rfl) (View.wordExact_bits rfl) ⟨⟨rfl, Or.inl rfl⟩, trivial⟩) fun _ => relays c rs k

/-- For each chunk of `rs`: wait for its send, its relay and the arrival of the `z` neighbour's relay; then `k`. -/
def drains (c : Dev nD) : List (Fin 8) → CoreProg F → CoreProg F
  | [], k => k
  | r :: rs, k => .op (.waitDma2 (chunkS 0 r) (yDst c r) (ySrc c r) (View.wordExact_bits rfl) (View.wordExact_bits rfl)) fun _ =>
      .op (.waitDma2 (chunkS 2 r) (hold c r) (hold c r) (View.wordExact_bits rfl) (View.wordExact_bits rfl)) fun _ =>
      .op (.waitDma2 (chunkS 3 r) (hold c r) (hold c r) (View.wordExact_bits rfl) (View.wordExact_bits rfl)) fun _ => drains c rs k

/-- The kernel on device `c`. -/
def onDevice (c : Dev nD) : CoreProg F :=
  .op (.enqueueDma (lSrc c) (.here (lDst c)) (.dma locS) (View.wordExact_bits rfl) (View.wordExact_bits rfl) ⟨Or.inl rfl, trivial⟩) fun _ =>
  .op (.semSignal (Dev.tc (⟨k0_dev1 c, k0_dev1_lt c⟩ : Dev nD)) barS (1 : ℕ)) fun _ =>
  .op (.semSignal (Dev.tc (⟨k0_dev2 c, k0_dev2_lt c⟩ : Dev nD)) barS (1 : ℕ)) fun _ =>
  .op (.semWait barS (2 : ℕ)) fun _ =>
  sendsY c chunks <| relays c chunks <| drains c chunks <|
  .op (.waitDma2 locS (lSrc c) (lDst c) (View.wordExact_bits rfl) (View.wordExact_bits rfl)) fun _ => .ret ⟨⟩

set_option maxRecDepth 65536 in
/-- The kernel's body is: read the device's number, then these phases. -/
theorem body_eq : cc0_body (F := F) xM (Memref.isWhole_whole _) oM (Memref.isWhole_whole _) cc0_scratch0 cc0_scratch1 cc0_scratch2 cc0_scratch3 cc0_scratch4
    = .op .deviceId fun c => onDevice c := by
  simp only [cc0_body_eq_skeleton]
  unfold cc0_body_skel
  simp only [k0_part16_eq_skeleton]
  unfold k0_part16_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton]
  rfl

end Cert.KernelIdeal.AllToAll

end
-- ==== Proof.KernelIdeal.Protocol.lean ====
/- The protocol of the all-to-all. Every semaphore of a device has one round.
   * barrier: its owner waits for two units. The `y` neighbour's unit hands over the rows of the `y` neighbour's result the owner
     writes, the `z` neighbour's unit the rows of the `z` neighbour's result the owner writes.
   * local: its owner's copy hands the result's own row block written and the source back.
   * chunk semaphores: a send gives the source back; an arrival gives the chunk of the result written.
   The contents are named throughout: the arrival of a chunk from the `y` neighbour, its relay and the arrival of the relay all say
   that the chunk holds the device's result. -/
module

public import proofs.«01_k».proof.Proof.KernelIdeal.Phases

@[expose] public section

noncomputable section

namespace Cert.KernelIdeal.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The exchange's copy of the rounds algebra (duties named by a Boolean), beside the pipeline's. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## Cells and amounts -/

abbrev barCell (c : Dev nD) : GSem nD τ sig := ((c : Thread nD τ), .reg barS)
abbrev locCell (c : Dev nD) : GSem nD τ sig := ((c : Thread nD τ), .dma locS)
abbrev chunkCell (c : Dev nD) (g : Fin 4) (r : Fin 8) : GSem nD τ sig := ((c : Thread nD τ), .dma (chunkS g r))

/-- What one chunk, and what the local copy credits. -/
@[irreducible] def NC : ℕ := (hold 0 0).view.dmaCredit
@[irreducible] def NL : ℕ := (lDst 0).view.dmaCredit
theorem NC_pos : 0 < NC := by unfold NC; exact View.dmaCredit_pos _ (by decide)
theorem NL_pos : 0 < NL := by unfold NL; exact View.dmaCredit_pos _ (by decide)

theorem credit_yDst (c : Dev nD) (r : Fin 8) : (yDst c r).view.dmaCredit = NC := by unfold NC; rfl
theorem credit_hold (c : Dev nD) (r : Fin 8) : (hold c r).view.dmaCredit = NC := by unfold NC; rfl
theorem credit_ySrc (c : Dev nD) (r : Fin 8) : (ySrc c r).view.dmaCredit = NC := by unfold NC; rfl
theorem credit_lDst (c : Dev nD) : (lDst c).view.dmaCredit = NL := by unfold NL; rfl

/-! ## Contents and points-tos -/

/-- Device `c`'s block of `x`, as staged. -/
def xstg (c : Dev nD) : (cc0_stg0_0 : Ref sig .tc).ty.Contents (Elt F) :=
  (win0_0.blk (0 : Fin 1)).view.read (Elt F) ((s₀ m ρ).mem ((c : Thread nD τ).loc main_arg0))
/-- Device `c`'s result. -/
def outAt (c : Dev nD) : (cc0_stg1_0 : Ref sig .tc).ty.Contents (Elt F) := outOf (xstg m ρ) c

/-- Elements `S` of device `c`'s staged block of `x`, of its staged result. -/
def xPts (c : Dev nD) (S : Finset S2048x1024.Idx) (f : (cc0_stg0_0 : Ref sig .tc).ty.Contents (Elt F)) : sProp 𝕄 :=
  ((c : Thread nD τ).loc cc0_stg0_0) ↦[S]{fullShare} f
def oPts (c : Dev nD) (S : Finset S4096x512.Idx) (f : (cc0_stg1_0 : Ref sig .tc).ty.Contents (Elt F)) : sProp 𝕄 :=
  ((c : Thread nD τ).loc cc0_stg1_0) ↦[S]{fullShare} f

omit [FloatOps F] in
instance xPts_storable (c : Dev nD) (S f) : BI.Storable (upEmb : UEmb _ 𝕄) (xPts (F := F) c S f) := by unfold xPts; infer_instance
omit [FloatOps F] in
instance oPts_storable (c : Dev nD) (S f) : BI.Storable (upEmb : UEmb _ 𝕄) (oPts (F := F) c S f) := by unfold oPts; infer_instance

/-! ## The schedule -/

/-- What the neighbour's unit on `c`'s barrier hands over: of the `y` neighbour (`true`), of the `z` neighbour (`false`), the rows of
    its result that `c` writes. -/
def barPay (c : Dev nD) (d : Bool) : sProp 𝕄 :=
  if d then iprop(∃ f, oPts (ypeer c) (holds (ypeer c)) f) else iprop(∃ f, oPts (zpeer c) (holds c) f)
/-- What the local copy leaves: the result's own row block, and its source back. -/
def locPay (c : Dev nD) : sProp 𝕄 := iprop(oPts c (lDst c).view.set (outAt m ρ c) ∗ xPts c (lSrc c).view.set (xstg m ρ c))
/-- What chunk `r`'s semaphore of group `g` hands its owner. -/
def chunkPay (c : Dev nD) (g : ℕ) (r : Fin 8) : sProp 𝕄 :=
  if g = 0 then xPts c (ySrc c r).view.set (xstg m ρ c)
  else if g = 3 then oPts c (hold (zpeer c) r).view.set (outAt m ρ c)
  else oPts c (hold c r).view.set (outAt m ρ c)

/-- The duties of a semaphore of a device, what they amount to and hand over. -/
def dutiesAt : SemLoc sig → Finset Bool
  | .reg s => if s = barS then Finset.univ else ∅
  | .dma q => if 2 ≤ q.val then {false} else ∅
def amountAt : SemLoc sig → ℕ
  | .reg _ => 1
  | .dma q => if q.val = 2 then NL else NC
def payAt (c : Dev nD) (d : Bool) : SemLoc sig → sProp 𝕄
  | .reg _ => barPay c d
  | .dma q => if q.val = 2 then locPay m ρ c else chunkPay m ρ c ((q.val - 3) / 8) ⟨(q.val - 3) % 8, Nat.mod_lt _ (by decide)⟩

theorem dutiesAt_bar : dutiesAt (.reg barS) = Finset.univ := by unfold dutiesAt; simp
theorem dutiesAt_dma (q : DmaSem sig) (h : 2 ≤ q.val) : dutiesAt (.dma q) = {false} := by unfold dutiesAt; simp [h]
theorem amountAt_loc : amountAt (.dma locS) = NL := by unfold amountAt; simp [locS_val]
theorem amountAt_chunk (g : Fin 4) (r : Fin 8) : amountAt (.dma (chunkS g r)) = NC := by
  show (if (chunkS g r).val = 2 then NL else NC) = NC
  exact if_neg (by rw [chunkS_val]; omega)
omit [FloatOps F] in
theorem payAt_loc (c : Dev nD) (d : Bool) : payAt m ρ c d (.dma locS) = locPay m ρ c := by unfold payAt; simp [locS_val]
omit [FloatOps F] in
theorem payAt_chunk (c : Dev nD) (d : Bool) (g : Fin 4) (r : Fin 8) : payAt m ρ c d (.dma (chunkS g r)) = chunkPay m ρ c g.val r := by
  have hr := r.isLt
  have hg : ((chunkS g r).val - 3) / 8 = g.val := by rw [chunkS_val]; omega
  have hv : (⟨((chunkS g r).val - 3) % 8, Nat.mod_lt _ (by decide)⟩ : Fin 8) = r := Fin.ext (by rw [chunkS_val]; dsimp only; omega)
  unfold payAt
  dsimp only
  rw [if_neg (by rw [chunkS_val]; omega), hv, hg]

theorem amountAt_pos (s : SemLoc sig) : 0 < amountAt s := by
  unfold amountAt
  split
  · exact Nat.one_pos
  · split
    · exact NL_pos
    · exact NC_pos

/-- One round, round 0, on every TensorCore's cells. -/
def sched : Rounds.Schedule (GSem nD τ sig) Bool 𝕄 where
  duties g r := if r = 0 ∧ g.1.2 = .tc then dutiesAt g.2 else ∅
  unitless _ := False
  amount g _ _ := amountAt g.2
  payload g _ d := payAt m ρ g.1.1 d g.2
  amount_pos g _ _ _ := amountAt_pos g.2

instance sched_payload_storable (g : GSem nD τ sig) (r : ℕ) (d : Bool) :
    BI.Storable (upEmb : UEmb _ 𝕄) ((sched (F := F) m ρ).payload g r d) := by
  show BI.Storable upEmb (payAt m ρ g.1.1 d g.2)
  unfold payAt barPay locPay chunkPay
  (repeat' split) <;> infer_instance

section Sched
variable (c : Dev nD) (g : Fin 4) (r : Fin 8)

omit [FloatOps F] in
theorem duties_bar : (sched (F := F) m ρ).duties (barCell c) 0 = Finset.univ := by
  dsimp only [sched]; exact (if_pos ⟨rfl, rfl⟩).trans dutiesAt_bar
omit [FloatOps F] in
theorem duties_loc : (sched (F := F) m ρ).duties (locCell c) 0 = {false} := by
  dsimp only [sched]; exact (if_pos ⟨rfl, rfl⟩).trans (dutiesAt_dma _ (le_of_eq locS_val.symm))
omit [FloatOps F] in
theorem duties_chunk : (sched (F := F) m ρ).duties (chunkCell c g r) 0 = {false} := by
  dsimp only [sched]; exact (if_pos ⟨rfl, rfl⟩).trans (dutiesAt_dma _ (by rw [chunkS_val]; omega))
omit [FloatOps F] in
theorem duties_later (x : GSem nD τ sig) : ∀ n, 1 ≤ n → (sched (F := F) m ρ).duties x n = ∅ :=
  fun n hn => by dsimp only [sched]; rw [if_neg fun h => by omega]

omit [FloatOps F] in
theorem amount_bar (d : Bool) : (sched (F := F) m ρ).amount (barCell c) 0 d = 1 := rfl
omit [FloatOps F] in
theorem amount_loc (d : Bool) : (sched (F := F) m ρ).amount (locCell c) 0 d = NL := amountAt_loc
omit [FloatOps F] in
theorem amount_chunk (d : Bool) : (sched (F := F) m ρ).amount (chunkCell c g r) 0 d = NC := amountAt_chunk g r

omit [FloatOps F] in
theorem expect_bar : (sched (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
omit [FloatOps F] in
theorem expect_loc : (sched (F := F) m ρ).expect (locCell c) 0 = NL := by
  unfold Schedule.expect Schedule.amountOf; rw [duties_loc, Finset.sum_singleton, amount_loc]
omit [FloatOps F] in
theorem expect_chunk : (sched (F := F) m ρ).expect (chunkCell c g r) 0 = NC := by
  unfold Schedule.expect Schedule.amountOf; rw [duties_chunk, Finset.sum_singleton, amount_chunk]

omit [FloatOps F] in
theorem payload_bar (d : Bool) : (sched (F := F) m ρ).payload (barCell c) 0 d = barPay c d := rfl
omit [FloatOps F] in
theorem payload_loc (d : Bool) : (sched (F := F) m ρ).payload (locCell c) 0 d = locPay m ρ c := payAt_loc m ρ c d
omit [FloatOps F] in
theorem payload_chunk (d : Bool) : (sched (F := F) m ρ).payload (chunkCell c g r) 0 d = chunkPay m ρ c g.val r := payAt_chunk m ρ c d g r

omit [FloatOps F] in
/-- What each whole round hands over. -/
theorem rest_bar : bigSep ((sched (F := F) m ρ).duties (barCell c) 0 \ ∅) (fun d => (sched (F := F) m ρ).payload (barCell c) 0 d)
    = iprop(barPay c true ∗ barPay c false) := by
  rw [Finset.sdiff_empty, duties_bar, bigSep_univ_eq_bigSepL [true, false] (by decide) (by decide), bigSepL_cons_cons, bigSepL_singleton]
  rfl
omit [FloatOps F] in
theorem rest_loc : bigSep ((sched (F := F) m ρ).duties (locCell c) 0 \ ∅) (fun d => (sched (F := F) m ρ).payload (locCell c) 0 d) = locPay m ρ c := by
  rw [Finset.sdiff_empty, duties_loc, bigSep_singleton, payload_loc]
omit [FloatOps F] in
theorem rest_chunk : bigSep ((sched (F := F) m ρ).duties (chunkCell c g r) 0 \ ∅) (fun d => (sched (F := F) m ρ).payload (chunkCell c g r) 0 d)
    = chunkPay m ρ c g.val r := by
  rw [Finset.sdiff_empty, duties_chunk, bigSep_singleton, payload_chunk]

end Sched

/-! ## What each device owes at launch; the levels -/

/-- The relays of the chunks `rs`, owed to the `z` neighbour; -/
def owedZ (c : Dev nD) : List (Fin 8) → CellTallies nD τ sig Unit
  | [] => 0
  | r :: rs => owedZ c rs + tallyAt (chunkCell (zpeer c) 3 r) () NC
/-- those of all chunks and the sends of the chunks `rs`, owed to the `y` neighbour; -/
def owedY (c : Dev nD) : List (Fin 8) → CellTallies nD τ sig Unit
  | [] => owedZ c chunks
  | r :: rs => owedY c rs + tallyAt (chunkCell (ypeer c) 1 r) () NC
/-- those and the signal to the `z` neighbour; all that and the signal to the `y` neighbour. -/
def O₁ (c : Dev nD) : CellTallies nD τ sig Unit := owedY c chunks + tallyAt (barCell (zpeer c)) () 1
def O₀ (c : Dev nD) : CellTallies nD τ sig Unit := O₁ c + tallyAt (barCell (ypeer c)) () 1

def L (g : GSem nD τ sig) : Finset Unit := if g.1.2 = .tc then {()} else ∅
/-- The level of a device's semaphore: a barrier 1, an arrival from the `y` neighbour 2, one from the `z` neighbour 3, all others 0. -/
def lvAt : SemLoc sig → ℕ
  | .reg _ => 1
  | .dma q => if q.val < 11 then 0 else if q.val < 19 then 2 else if q.val < 27 then 0 else 3
def lv (g : GSem nD τ sig) (_ : Unit) : ℕ := lvAt g.2

theorem L_of_ne (g : GSem nD τ sig) (h : g.1.2 ≠ .tc) : L g = ∅ := if_neg h
theorem L_tc (c : Dev nD) (sm : SemLoc sig) : L ((c : Thread nD τ), sm) = {()} := if_pos rfl

theorem lvAt_y (r : Fin 8) : lvAt (.dma (chunkS 1 r)) = 2 := by revert r; decide
theorem lvAt_z (r : Fin 8) : lvAt (.dma (chunkS 3 r)) = 3 := by revert r; decide

/-- Cell tallies all of whose cells belong to TensorCores and lie above level `b`. -/
def Above (b : ℕ) (O : CellTallies nD τ sig Unit) : Prop := ∀ (g : GSem nD τ sig) (u : Unit), 0 < O g u → g.1.2 = .tc ∧ b < lv g u

theorem Above.zero (b : ℕ) : Above b 0 := fun g u h => absurd h (Nat.lt_irrefl 0)
theorem Above.add {b : ℕ} {O : CellTallies nD τ sig Unit} (hO : Above b O) (d : Dev nD) (sm : SemLoc sig) (n : ℕ) (h : b < lvAt sm) :
    Above b (O + tallyAt ((d : Thread nD τ), sm) () n) := fun g u hg => by
  rw [Pi.add_apply, Finsupp.add_apply, tallyAt_apply] at hg
  by_cases e : g = ((d : Thread nD τ), sm) ∧ u = ()
  · rw [e.1]; exact ⟨rfl, h⟩
  · rw [if_neg e, Nat.add_zero] at hg; exact hO g u hg

theorem above_owedZ {b : ℕ} (hb : b < 3) (c : Dev nD) : ∀ rs, Above b (owedZ c rs)
  | [] => Above.zero b
  | r :: rs => (above_owedZ hb c rs).add (zpeer c) _ _ (by rw [lvAt_z]; exact hb)
theorem above_owedY {b : ℕ} (hb : b < 2) (c : Dev nD) : ∀ rs, Above b (owedY c rs)
  | [] => above_owedZ (by omega) c chunks
  | r :: rs => (above_owedY hb c rs).add (ypeer c) _ _ (by rw [lvAt_y]; exact hb)
theorem above_O₀ (c : Dev nD) : Above 0 (O₀ c) :=
  ((above_owedY (by decide) c chunks).add (zpeer c) _ _ Nat.one_pos).add (ypeer c) _ _ Nat.one_pos

omit [FloatOps F] in
/-- A device may wait on its semaphore `sm` while it owes tallies that lie above it. -/
theorem mayWait (c : Dev nD) (sm : SemLoc sig) {O : CellTallies nD τ sig Unit} (hO : Above (lvAt sm) O) :
    (levAts L lv : sProp 𝕄) ⊢ MayWait (c : Thread nD τ) sm () O :=
  MayOwe.of_cut (L := L) (lev := lv) (lvAt sm) (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_refl _)
    (fun g u hg => (hO g u hg).2)

end Cert.KernelIdeal.AllToAll

end
-- ==== Proof.KernelIdeal.Body.lean ====
/- The kernel's body on one device, every phase by induction over the chunks: what it starts from, that it runs through, and
   what it leaves. -/
module

public import proofs.«01_k».proof.Proof.KernelIdeal.Protocol

@[expose] public section

noncomputable section

namespace Cert.KernelIdeal.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Written contents -/

omit [FloatOps F] in
/-- Writing through one view what is read through another makes contents that already agree with it there. -/
theorem write_read_eq {s : Shape} (v w : View sig .tc .vmem s .f32) (fd g : v.ty.Contents (Elt F)) (fs : w.ty.Contents (Elt F))
    (h : ∀ j, w.read (Elt F) fs j = v.read (Elt F) g j) : ∀ i ∈ v.set, v.write (Elt F) fd (w.read (Elt F) fs) Finset.univ i = g i := by
  intro i hi
  obtain ⟨j, -, rfl⟩ := Finset.mem_map.1 hi
  rw [View.write_emb_of_mem _ _ (Finset.mem_univ j), h j, View.read_apply, cast_cast, cast_eq]

omit [FloatOps F] in
theorem landed_local (c : Dev nD) (fd : (cc0_stg1_0 : Ref sig .tc).ty.Contents (Elt F)) :
    oPts c (lDst c).view.set ((lDst c).view.write (Elt F) fd ((lSrc c).view.read (Elt F) (xstg m ρ c)) Finset.univ)
      = oPts c (lDst c).view.set (outAt m ρ c) :=
  pointsTo_congr (write_read_eq (lDst c).view (lSrc c).view fd (outAt m ρ c) (xstg m ρ c) fun j => out_local (xstg m ρ) c j)

omit [FloatOps F] in
theorem landed_y (c : Dev nD) (r : Fin 8) (fd : (cc0_stg1_0 : Ref sig .tc).ty.Contents (Elt F)) :
    oPts (ypeer c) (yDst c r).view.set ((yDst c r).view.write (Elt F) fd ((ySrc c r).view.read (Elt F) (xstg m ρ c)) Finset.univ)
      = oPts (ypeer c) (hold (ypeer c) r).view.set (outAt m ρ (ypeer c)) :=
  (pointsTo_congr (write_read_eq (yDst c r).view (ySrc c r).view fd (outAt m ρ (ypeer c)) (xstg m ρ c) fun j => out_exchange (xstg m ρ) c r j)).trans
    (by rw [yDst_set]; rfl)

omit [FloatOps F] in
theorem landed_z (c : Dev nD) (r : Fin 8) (fd : (cc0_stg1_0 : Ref sig .tc).ty.Contents (Elt F)) :
    oPts (zpeer c) (hold c r).view.set ((hold c r).view.write (Elt F) fd ((hold c r).view.read (Elt F) (outAt m ρ c)) Finset.univ)
      = oPts (zpeer c) (hold c r).view.set (outAt m ρ (zpeer c)) :=
  pointsTo_congr (write_read_eq (hold c r).view (hold c r).view fd (outAt m ρ (zpeer c)) (outAt m ρ c) fun j =>
    out_relay (xstg m ρ) c r _ (Finset.mem_map_of_mem _ (Finset.mem_univ j)))

/-! ## Cells and records -/

/-- A device's semaphores: the barrier, and its own ones, the local copy's and the chunks'. -/
abbrev OI : Type := Unit ⊕ (Fin 4 × Fin 8)
abbrev CI : Type := Unit ⊕ OI
abbrev osem : OI → SemLoc sig
  | .inl _ => .dma locS
  | .inr gr => .dma (chunkS gr.1 gr.2)
abbrev csem : CI → SemLoc sig
  | .inl _ => .reg barS
  | .inr k => osem k
abbrev kcell (ck : Dev nD × CI) : GSem nD τ sig := ((ck.1 : Thread nD τ), csem ck.2)

/-- Every cell's invariant, under the names `K`, and that every cell has reached its round. -/
def records (K : Dev nD × CI → ℕ) : sProp 𝕄 :=
  iprop((bigSep Finset.univ fun ck : Dev nD × CI => cellInv ER (sched m ρ) (K ck) (kcell ck))
    ∗ bigSep Finset.univ fun ck : Dev nD × CI => reached ER (kcell ck) 0)

instance records_persistent (K : Dev nD × CI → ℕ) : BI.Persistent (records m ρ K) := by unfold records; infer_instance

variable (K : Dev nD × CI → ℕ)

omit [FloatOps F] in
theorem inv_at (ck : Dev nD × CI) : records m ρ K ⊢ cellInv ER (sched m ρ) (K ck) (kcell ck) := by
  unfold records
  exact sep_elim_left.trans (bigSep_elim (Φ := fun ck : Dev nD × CI => (cellInv ER (sched m ρ) (K ck) (kcell ck) : sProp 𝕄)) (Finset.mem_univ ck))
omit [FloatOps F] in
theorem reached_at (ck : Dev nD × CI) : records m ρ K ⊢ reached ER (kcell ck) 0 := by
  unfold records
  exact sep_elim_right.trans (bigSep_elim (Φ := fun ck : Dev nD × CI => (reached ER (kcell ck) 0 : sProp 𝕄)) (Finset.mem_univ ck))

/-- The index of chunk `r` of group `g` on device `c`. -/
abbrev ci (c : Dev nD) (g : Fin 4) (r : Fin 8) : Dev nD × CI := (c, .inr (.inr (g, r)))
abbrev biBar (c : Dev nD) : Dev nD × CI := (c, .inl ())
abbrev biLoc (c : Dev nD) : Dev nD × CI := (c, .inr (.inl ()))

/-! ## Sending to the `y` neighbour -/

/-- What the send of chunk `r` takes: the rows sent, the place they go, and the tokens of the two semaphores it raises. -/
def sendIn (c : Dev nD) (r : Fin 8) : sProp 𝕄 :=
  iprop(xPts c (ySrc c r).view.set (xstg m ρ c) ∗ (∃ f, oPts (ypeer c) (hold (ypeer c) r).view.set f)
    ∗ dutyTok ER (chunkCell c 0 r) 0 false ∗ dutyTok ER (chunkCell (ypeer c) 1 r) 0 false)

/-- One send. -/
theorem wp_sendY (c n : Dev nD) (hn : n = ypeer c) (r : Fin 8)
    {hsc : (yDst c r : Memref sig (Dev.tc n : Thread nD τ).2.kind .vmem S128x512 .f32).view.ref.isScScratch = false}
    {hsrc : (ySrc c r).view.WordExact} {hdst : (yDst c r).view.WordExact}
    {hsem : DmaTarget.Typed .vmem (.dma (chunkS 1 r)) (.remote (Dev.tc n : Thread nD τ) (yDst c r) (.dma (chunkS 0 r)) hsc)}
    {α : Type} {Q : α → sProp 𝕄} {k : PUnit → Prog (TpuEff nD τ sig (Elt F) Λ₀ .tc) α}
    (O : CellTallies nD τ sig Unit) (W : Waits sig Unit) :
    iprop(records m ρ K ∗ sendIn m ρ c r ∗ owes (c : Thread nD τ) (O + tallyAt (chunkCell (ypeer c) 1 r) () NC) W)
      ⊢ iprop(((cred (tallyAt (chunkCell c 0 r) () NC) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ySrc c r) (.remote (Dev.tc n : Thread nD τ) (yDst c r) (.dma (chunkS 0 r)) hsc) (.dma (chunkS 1 r)) hsrc hdst hsem) k) Q) := by
  subst hn
  have hO' : iprop(∃ f, oPts (F := F) (ypeer c) (hold (ypeer c) r).view.set f) = iprop(∃ f, oPts (F := F) (ypeer c) (yDst c r).view.set f) := by rw [yDst_set]
  unfold sendIn
  rw [hO']
  iintro ⟨#HR, ⟨Hx, ⟨%f, Ho⟩, Ht0, Ht1⟩, HO⟩
  ihave #Hi0 := (inv_at m ρ K (ci c 0 r)) $$ HR
  ihave #Hi1 := (inv_at m ρ K (ci (ypeer c) 1 r)) $$ HR
  ihave #Hr0 := (reached_at m ρ K (ci c 0 r)) $$ HR
  ihave #Hr1 := (reached_at m ρ K (ci (ypeer c) 1 r)) $$ HR
  have h1 : (((ySrc c r).view.loc (c : Thread nD τ)) ↦[(ySrc c r).view.set]{fullShare} xstg m ρ c : sProp 𝕄)
      ⊢ (sched m ρ).payload (chunkCell c 0 r) 0 false := by rw [payload_chunk]; exact BI.Entails.refl _
  have h2 : (((yDst c r).view.loc (ypeer c : Thread nD τ)) ↦[(yDst c r).view.set]{fullShare} ((yDst c r).view.write (Elt F) f ((ySrc c r).view.read (Elt F) (xstg m ρ c)) Finset.univ) : sProp 𝕄)
      ⊢ (sched m ρ).payload (chunkCell (ypeer c) 1 r) 0 false := by rw [payload_chunk]; exact Entails.of_eq (landed_y m ρ c r f)
  iapply (Rounds.wp_send_pointsTo (defs := defs₀ (F := F)) (Q := Q) (k := k) 𝒱₀ ER (sched m ρ) (c : Thread nD τ) none (κ₁ := K (ci c 0 r)) (κ₂ := K (ci (ypeer c) 1 r))
    (hsc := hsc) (hsrc := hsrc) (hdst := hdst) (hsem := hsem)
    (c' := (ypeer c : Thread nD τ)) (fs := xstg m ρ c) (q := fullShare)
    (r₁ := 0) (r₂ := 0) (d₁ := false) (d₂ := false) (fd := f)
    (by rw [duties_chunk]; exact Finset.mem_singleton_self _) (by rw [duties_chunk]; exact Finset.mem_singleton_self _)
    () () NC (credit_yDst c r) (amount_chunk m ρ c 0 r false) (amount_chunk m ρ (ypeer c) 1 r false) O rfl (W := W) h1 h2 (Es := Set.univ)) $$ [Hx Ho Ht0 Ht1 HO]
  isplitr; · iexact Hi0
  isplitr; · iexact Hi1
  isplitl [Hx]; · unfold xPts; iexact Hx
  isplitl [Ho]; · unfold oPts; iexact Ho
  isplitl [HO]; · iexact HO
  isplitl [Ht0]; · iexact Ht0
  isplitr; · iexact Hr0
  isplitl [Ht1]; · iexact Ht1
  iexact Hr1

/-- All sends of the chunks `rs`. -/
theorem wp_sendsY (c : Dev nD) {Q : PUnit → sProp 𝕄} {k : CoreProg F} (W : Waits sig Unit) : ∀ rs,
    iprop(records m ρ K ∗ owes (c : Thread nD τ) (owedY c rs) W ∗ bigSepL rs (sendIn m ρ c))
      ⊢ iprop(((owes (c : Thread nD τ) (owedY c []) W ∗ bigSepL rs fun r => cred (tallyAt (chunkCell c 0 r) () NC))
            -∗ wp frame (wpE (defs₀ (F := F)) 𝒱₀ (c : Thread nD τ) none) Set.univ k Q)
          -∗ wp frame (wpE (defs₀ (F := F)) 𝒱₀ (c : Thread nD τ) none) Set.univ (sendsY c rs k) Q)
  | [] => by
    unfold sendsY
    iintro ⟨#HR, HO, Hin⟩ Hk
    iapply Hk
    isplitl [HO]; · iexact HO
    iexact Hin
  | r :: rs => by
    unfold sendsY
    rw [bigSepL_cons', bigSepL_cons']
    iintro ⟨#HR, HO, Hr, Hin⟩ Hk
    iapply (wp_sendY m ρ K c (yDev c r) (yDev_eq c r) r (owedY c rs) W) $$ [HO Hr]
    · isplitr; · iexact HR
      isplitl [Hr]; · iexact Hr
      iexact HO
    iintro ⟨Hc, HO⟩
    iapply (wp_sendsY c W rs) $$ [HO Hin]
    · isplitr; · iexact HR
      isplitl [HO]; · iexact HO
      iexact Hin
    iintro ⟨HO, Hcs⟩
    iapply Hk
    isplitl [HO]; · iexact HO
    isplitl [Hc]; · iexact Hc
    iexact Hcs

/-! ## Waiting for a chunk's semaphore -/

section Pays
variable (c : Dev nD) (r : Fin 8)
omit [FloatOps F] in
/-- A finished send gives its source back; -/
theorem pay_sent : chunkPay m ρ c (0 : Fin 4).val r = xPts c (ySrc c r).view.set (xstg m ρ c) := if_pos rfl
omit [FloatOps F] in
/-- an arrival from the `y` neighbour gives the chunk held; -/
theorem pay_held : chunkPay m ρ c (1 : Fin 4).val r = oPts c (hold c r).view.set (outAt m ρ c) := by
  unfold chunkPay; rw [if_neg (by decide), if_neg (by decide)]
omit [FloatOps F] in
/-- a finished relay gives it back; -/
theorem pay_back : chunkPay m ρ c (2 : Fin 4).val r = oPts c (hold c r).view.set (outAt m ρ c) := by
  unfold chunkPay; rw [if_neg (by decide), if_neg (by decide)]
omit [FloatOps F] in
/-- an arrival from the `z` neighbour gives the chunk it held. -/
theorem pay_relayed : chunkPay m ρ c (3 : Fin 4).val r = oPts c (hold (zpeer c) r).view.set (outAt m ρ c) := by
  unfold chunkPay; rw [if_neg (by decide), if_pos (by decide)]
end Pays

/-- One wait, whatever is owed lying above the semaphore: the chunk comes with it. -/
theorem wp_waitChunk (c : Dev nD) (g : Fin 4) (r : Fin 8) {κ' : Kind} {src : Memref sig .tc .vmem S128x512 .f32} {dst : Memref sig κ' .vmem S128x512 .f32}
    {hsrc : src.view.WordExact} {hdst : dst.view.WordExact} (hN : dst.view.dmaCredit = NC)
    {Q : PUnit → sProp 𝕄} {k : PUnit → CoreProg F} {O : CellTallies nD τ sig Unit} (hO : Above (lvAt (.dma (chunkS g r))) O) (W : Waits sig Unit) :
    iprop(records m ρ K ∗ levAts L lv ∗ cred (tallyAt (chunkCell c g r) () NC) ∗ atPos ER (chunkCell c g r) 0 ∅ 0 ∗ owes (c : Thread nD τ) O W)
      ⊢ iprop(((chunkPay m ρ c g.val r ∗ atPos ER (chunkCell c g r) 1 ∅ 0 ∗ ∃ W', owes (c : Thread nD τ) O W')
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (chunkS g r) src dst hsrc hdst) k) Q) := by
  iintro ⟨#HR, #Hlev, Hc, Hat, HO⟩ Hk
  ihave #Hi := (inv_at m ρ K (ci c g r)) $$ HR
  have hw : ∀ Z : PUnit → sProp 𝕄, wpE (defs₀ (F := F)) 𝒱₀ (c : Thread nD τ) none Set.univ (.waitDma2 (chunkS g r) src dst hsrc hdst) Z
      = waitSpec (c : Thread nD τ) Set.univ (.dma (chunkS g r)) NC Z := fun Z => by rw [← hN]; exact wpE_waitDma2_eq 𝒱₀ (c : Thread nD τ) none Set.univ Z
  iapply (Rounds.wp_wait_rest_token (defs := defs₀ (F := F)) (Q := Q) (k := k) 𝒱₀ ER (sched m ρ) (c : Thread nD τ) none (κ := K (ci c g r))
      hw (Set.mem_univ _) () (O := O) (W := W) (R := 0) (m := 0) (T := ∅) (by rw [Nat.zero_add, expect_chunk])) $$ [Hc HO Hat]
  · isplitr; · iexact Hi
    isplitl [Hc]; · iexact Hc
    isplitl [HO]; · iexact HO
    isplitr; · iapply (mayWait c (.dma (chunkS g r)) hO); iexact Hlev
    iexact Hat
  iintro ⟨HO, Hat, -, Hpay⟩
  ihave Hp := (Entails.of_eq (rest_chunk m ρ c g r)) $$ Hpay
  iapply Hk
  isplitl [Hp]; · iexact Hp
  isplitl [Hat]; · iexact Hat
  iexists _; iexact HO

/-! ## Relaying to the `z` neighbour -/

/-- One relay: the chunk received goes to the same rows of the `z` neighbour's result. -/
theorem wp_relayZ (c n : Dev nD) (hn : n = zpeer c) (r : Fin 8)
    {hsc : (hold c r : Memref sig (Dev.tc n : Thread nD τ).2.kind .vmem S128x512 .f32).view.ref.isScScratch = false}
    {hsrc : (hold c r).view.WordExact} {hdst : (hold c r).view.WordExact}
    {hsem : DmaTarget.Typed .vmem (.dma (chunkS 3 r)) (.remote (Dev.tc n : Thread nD τ) (hold c r) (.dma (chunkS 2 r)) hsc)}
    {α : Type} {Q : α → sProp 𝕄} {k : PUnit → Prog (TpuEff nD τ sig (Elt F) Λ₀ .tc) α}
    (O : CellTallies nD τ sig Unit) (W : Waits sig Unit) :
    iprop(records m ρ K ∗ oPts c (hold c r).view.set (outAt m ρ c) ∗ (∃ f, oPts (zpeer c) (hold c r).view.set f)
        ∗ dutyTok ER (chunkCell c 2 r) 0 false ∗ dutyTok ER (chunkCell (zpeer c) 3 r) 0 false
        ∗ owes (c : Thread nD τ) (O + tallyAt (chunkCell (zpeer c) 3 r) () NC) W)
      ⊢ iprop(((cred (tallyAt (chunkCell c 2 r) () NC) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (hold c r) (.remote (Dev.tc n : Thread nD τ) (hold c r) (.dma (chunkS 2 r)) hsc) (.dma (chunkS 3 r)) hsrc hdst hsem) k) Q) := by
  subst hn
  iintro ⟨#HR, Hx, ⟨%f, Ho⟩, Ht0, Ht1, HO⟩
  ihave #Hi0 := (inv_at m ρ K (ci c 2 r)) $$ HR
  ihave #Hi1 := (inv_at m ρ K (ci (zpeer c) 3 r)) $$ HR
  ihave #Hr0 := (reached_at m ρ K (ci c 2 r)) $$ HR
  ihave #Hr1 := (reached_at m ρ K (ci (zpeer c) 3 r)) $$ HR
  have h1 : (((hold c r).view.loc (c : Thread nD τ)) ↦[(hold c r).view.set]{fullShare} outAt m ρ c : sProp 𝕄)
      ⊢ (sched m ρ).payload (chunkCell c 2 r) 0 false := by rw [payload_chunk]; exact BI.Entails.refl _
  have h2 : (((hold c r).view.loc (zpeer c : Thread nD τ)) ↦[(hold c r).view.set]{fullShare} ((hold c r).view.write (Elt F) f ((hold c r).view.read (Elt F) (outAt m ρ c)) Finset.univ) : sProp 𝕄)
      ⊢ (sched m ρ).payload (chunkCell (zpeer c) 3 r) 0 false := by
    rw [payload_chunk]
    refine (Entails.of_eq (landed_z m ρ c r f)).trans ?_
    show oPts (zpeer c) (hold c r).view.set (outAt m ρ (zpeer c)) ⊢ oPts (zpeer c) (hold (zpeer (zpeer c)) r).view.set (outAt m ρ (zpeer c))
    rw [zpeer_zpeer]
  iapply (Rounds.wp_send_pointsTo (defs := defs₀ (F := F)) (Q := Q) (k := k) 𝒱₀ ER (sched m ρ) (c : Thread nD τ) none (κ₁ := K (ci c 2 r)) (κ₂ := K (ci (zpeer c) 3 r))
    (hsc := hsc) (hsrc := hsrc) (hdst := hdst) (hsem := hsem)
    (c' := (zpeer c : Thread nD τ)) (fs := outAt m ρ c) (q := fullShare)
    (r₁ := 0) (r₂ := 0) (d₁ := false) (d₂ := false) (fd := f)
    (by rw [duties_chunk]; exact Finset.mem_singleton_self _) (by rw [duties_chunk]; exact Finset.mem_singleton_self _)
    () () NC (credit_hold c r) (amount_chunk m ρ c 2 r false) (amount_chunk m ρ (zpeer c) 3 r false) O rfl (W := W) h1 h2 (Es := Set.univ)) $$ [Hx Ho Ht0 Ht1 HO]
  isplitr; · iexact Hi0
  isplitr; · iexact Hi1
  isplitl [Hx]; · unfold oPts; iexact Hx
  isplitl [Ho]; · unfold oPts; iexact Ho
  isplitl [HO]; · iexact HO
  isplitl [Ht0]; · iexact Ht0
  isplitr; · iexact Hr0
  isplitl [Ht1]; · iexact Ht1
  iexact Hr1

/-- What the reception and relay of chunk `r` take: the arrival's credit and position, the place on the `z` neighbour, the tokens of
    the two semaphores the relay raises; -/
def relayIn (c : Dev nD) (r : Fin 8) : sProp 𝕄 :=
  iprop(cred (tallyAt (chunkCell c 1 r) () NC) ∗ atPos ER (chunkCell c 1 r) 0 ∅ 0 ∗ (∃ f, oPts (zpeer c) (hold c r).view.set f)
    ∗ dutyTok ER (chunkCell c 2 r) 0 false ∗ dutyTok ER (chunkCell (zpeer c) 3 r) 0 false)
/-- what they leave. -/
def relayOut (c : Dev nD) (r : Fin 8) : sProp 𝕄 := iprop(cred (tallyAt (chunkCell c 2 r) () NC) ∗ atPos ER (chunkCell c 1 r) 1 ∅ 0)

/-- All receptions and relays of the chunks `rs`. -/
theorem wp_relays (c : Dev nD) {Q : PUnit → sProp 𝕄} {k : CoreProg F} : ∀ rs,
    iprop(records m ρ K ∗ levAts L lv ∗ (∃ W, owes (c : Thread nD τ) (owedZ c rs) W) ∗ bigSepL rs (relayIn (F := F) c))
      ⊢ iprop((((∃ W, owes (c : Thread nD τ) 0 W) ∗ bigSepL rs (relayOut (F := F) c)) -∗ wp frame (wpE (defs₀ (F := F)) 𝒱₀ (c : Thread nD τ) none) Set.univ k Q)
          -∗ wp frame (wpE (defs₀ (F := F)) 𝒱₀ (c : Thread nD τ) none) Set.univ (relays c rs k) Q)
  | [] => by
    unfold relays owedZ
    iintro ⟨#HR, #Hlev, HO, Hin⟩ Hk
    iapply Hk
    isplitl [HO]; · iexact HO
    iexact Hin
  | r :: rs => by
    unfold relays
    rw [bigSepL_cons', bigSepL_cons']
    iintro ⟨#HR, #Hlev, ⟨%W, HO⟩, Hr, Hin⟩ Hk
    unfold relayIn relayOut
    icases Hr with ⟨Hc, Hat, Ho, Ht0, Ht1⟩
    iapply (wp_waitChunk m ρ K c 1 r (credit_yDst c r) (O := owedZ c (r :: rs)) (by rw [lvAt_y]; exact above_owedZ (by decide) c _) W) $$ [Hc Hat HO]
    · isplitr; · iexact HR
      isplitr; · iexact Hlev
      isplitl [Hc]; · iexact Hc
      isplitl [Hat]; · iexact Hat
      iexact HO
    iintro ⟨Hp, Hat, ⟨%W', HO⟩⟩
    ihave Hp := (Entails.of_eq (pay_held m ρ c r)) $$ Hp
    iapply (wp_relayZ m ρ K c (zDev c r) (zDev_eq c r) r (owedZ c rs) W') $$ [Hp Ho Ht0 Ht1 HO]
    · isplitr; · iexact HR
      isplitl [Hp]; · iexact Hp
      isplitl [Ho]; · iexact Ho
      isplitl [Ht0]; · iexact Ht0
      isplitl [Ht1]; · iexact Ht1
      iexact HO
    iintro ⟨Hc, HO⟩
    iapply (wp_relays c rs) $$ [HO Hin]
    · isplitr; · iexact HR
      isplitr; · iexact Hlev
      isplitl [HO]; · iexists _; iexact HO
      unfold relayIn; iexact Hin
    iintro ⟨HO, Hcs⟩
    iapply Hk
    isplitl [HO]; · iexact HO
    isplitl [Hc Hat]
    · isplitl [Hc] <;> iassumption
    unfold relayOut; iexact Hcs

/-! ## The last waits -/

/-- What the last waits of chunk `r` take, -/
def drainIn (c : Dev nD) (r : Fin 8) : sProp 𝕄 :=
  iprop((cred (tallyAt (chunkCell c 0 r) () NC) ∗ atPos ER (chunkCell c 0 r) 0 ∅ 0)
    ∗ (cred (tallyAt (chunkCell c 2 r) () NC) ∗ atPos ER (chunkCell c 2 r) 0 ∅ 0)
    ∗ (cred (tallyAt (chunkCell c 3 r) () NC) ∗ atPos ER (chunkCell c 3 r) 0 ∅ 0))
/-- and what they leave. -/
def drainOut (c : Dev nD) (r : Fin 8) : sProp 𝕄 :=
  iprop((xPts c (ySrc c r).view.set (xstg m ρ c) ∗ atPos ER (chunkCell c 0 r) 1 ∅ 0)
    ∗ (oPts c (hold c r).view.set (outAt m ρ c) ∗ atPos ER (chunkCell c 2 r) 1 ∅ 0)
    ∗ (oPts c (hold (zpeer c) r).view.set (outAt m ρ c) ∗ atPos ER (chunkCell c 3 r) 1 ∅ 0))

/-- All last waits of the chunks `rs`. -/
theorem wp_drains (c : Dev nD) {Q : PUnit → sProp 𝕄} {k : CoreProg F} : ∀ rs,
    iprop(records m ρ K ∗ levAts L lv ∗ (∃ W, owes (c : Thread nD τ) 0 W) ∗ bigSepL rs (drainIn (F := F) c))
      ⊢ iprop((((∃ W, owes (c : Thread nD τ) 0 W) ∗ bigSepL rs (drainOut m ρ c)) -∗ wp frame (wpE (defs₀ (F := F)) 𝒱₀ (c : Thread nD τ) none) Set.univ k Q)
          -∗ wp frame (wpE (defs₀ (F := F)) 𝒱₀ (c : Thread nD τ) none) Set.univ (drains c rs k) Q)
  | [] => by
    unfold drains
    iintro ⟨#HR, #Hlev, HO, Hin⟩ Hk
    iapply Hk
    isplitl [HO]; · iexact HO
    iexact Hin
  | r :: rs => by
    unfold drains
    rw [bigSepL_cons', bigSepL_cons']
    iintro ⟨#HR, #Hlev, ⟨%W, HO⟩, Hr, Hin⟩ Hk
    unfold drainIn drainOut
    icases Hr with ⟨⟨Hc0, Ha0⟩, ⟨Hc2, Ha2⟩, Hc3, Ha3⟩
    iapply (wp_waitChunk m ρ K c 0 r (credit_ySrc c r) (O := 0) (Above.zero _) W) $$ [Hc0 Ha0 HO]
    · isplitr; · iexact HR
      isplitr; · iexact Hlev
      isplitl [Hc0]; · iexact Hc0
      isplitl [Ha0]; · iexact Ha0
      iexact HO
    iintro ⟨Hp0, Ha0, ⟨%W0, HO⟩⟩
    ihave Hp0 := (Entails.of_eq (pay_sent m ρ c r)) $$ Hp0
    iapply (wp_waitChunk m ρ K c 2 r (credit_hold c r) (O := 0) (Above.zero _) W0) $$ [Hc2 Ha2 HO]
    · isplitr; · iexact HR
      isplitr; · iexact Hlev
      isplitl [Hc2]; · iexact Hc2
      isplitl [Ha2]; · iexact Ha2
      iexact HO
    iintro ⟨Hp2, Ha2, ⟨%W2, HO⟩⟩
    ihave Hp2 := (Entails.of_eq (pay_back m ρ c r)) $$ Hp2
    iapply (wp_waitChunk m ρ K c 3 r (credit_hold c r) (O := 0) (Above.zero _) W2) $$ [Hc3 Ha3 HO]
    · isplitr; · iexact HR
      isplitr; · iexact Hlev
      isplitl [Hc3]; · iexact Hc3
      isplitl [Ha3]; · iexact Ha3
      iexact HO
    iintro ⟨Hp3, Ha3, HO⟩
    ihave Hp3 := (Entails.of_eq (pay_relayed m ρ c r)) $$ Hp3
    iapply (wp_drains c rs) $$ [HO Hin]
    · isplitr; · iexact HR
      isplitr; · iexact Hlev
      isplitl [HO]; · iexact HO
      unfold drainIn; iexact Hin
    iintro ⟨HO, Hcs⟩
    iapply Hk
    isplitl [HO]; · iexact HO
    isplitl [Hp0 Ha0 Hp2 Ha2 Hp3 Ha3]
    · isplitl [Hp0 Ha0]
      · isplitl [Hp0]; · iexact Hp0
        iexact Ha0
      isplitl [Hp2 Ha2]
      · isplitl [Hp2]; · iexact Hp2
        iexact Ha2
      isplitl [Hp3]; · iexact Hp3
      iexact Ha3
    unfold drainOut; iexact Hcs

end Cert.KernelIdeal.AllToAll

end
-- ==== Proof.KernelIdeal.Core.lean ====
/- The whole body on one device: it splits its two buffers along the protocol, runs the phases, joins the buffers again and closes
   its semaphores; and with it the obligation of the pipeline around the kernel. -/
module

public import proofs.«01_k».proof.Proof.KernelIdeal.Body

@[expose] public section

noncomputable section

namespace Cert.KernelIdeal.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over the chunks and over the semaphores -/

omit [FloatOps F] in
theorem chunks_eq (Φ : Fin 8 → sProp 𝕄) : bigSep Finset.univ Φ = bigSepL chunks Φ := bigSep_univ_eq_bigSepL chunks (by decide) (by decide) Φ

omit [FloatOps F] in
theorem groups_eq (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem unit_eq (Φ : Unit → sProp 𝕄) : bigSep Finset.univ Φ = Φ () := bigSep_univ_eq_bigSepL [()] (by decide) (by decide) Φ

omit [FloatOps F] in
/-- A family over a device's own semaphores, by groups. -/
theorem own_eq (Φ : OI → sProp 𝕄) : bigSep Finset.univ Φ = iprop(Φ (.inl ()) ∗ (bigSep Finset.univ fun r => Φ (.inr (0, r)))
    ∗ (bigSep Finset.univ fun r => Φ (.inr (1, r))) ∗ (bigSep Finset.univ fun r => Φ (.inr (2, r))) ∗ (bigSep Finset.univ fun r => Φ (.inr (3, r)))) := by
  rw [bigSep_univ_sum, unit_eq, bigSep_univ_prod (fun b : Fin 4 × Fin 8 => Φ (.inr b)), groups_eq]; rfl

omit [FloatOps F] in
/-- A family over all semaphores of a device: the barrier's, then its own ones. -/
theorem cells_eq (Φ : CI → sProp 𝕄) : bigSep Finset.univ Φ = iprop(Φ (.inl ()) ∗ bigSep Finset.univ fun k => Φ (.inr k)) := by
  rw [bigSep_univ_sum, unit_eq]; rfl

/-! ## Splitting the two buffers -/

omit [FloatOps F] in
theorem both {P Q : sProp 𝕄} (h : P ⊣⊢ Q) : P = Q := BI.equiv_iff.mp ⟨h.1, h.2⟩

omit [FloatOps F] in
/-- The block of `x` is the half copied, the chunks sent and the rest. -/
theorem x_split (c : Dev nD) (f : (cc0_stg0_0 : Ref sig .tc).ty.Contents (Elt F)) :
    xPts c Finset.univ f = iprop(xPts c (lSrc c).view.set f ∗ (bigSep Finset.univ fun r => xPts c (ySrc c r).view.set f)
      ∗ xPts c ((Finset.univ \ (lSrc c).view.set) \ sent c) f) := by
  unfold xPts
  rw [both (pointsTo_split_subset (Finset.subset_univ (lSrc c).view.set)), both (pointsTo_split_subset (ℓ := (c : Thread nD τ).loc cc0_stg0_0) (f := f) (q := fullShare) (S := Finset.univ \ (lSrc c).view.set) (I := sent c) (sent_subset c))]
  unfold sent
  rw [pointsTo_biUnion (ℓ := (c : Thread nD τ).loc cc0_stg0_0) (f := f) (q := fullShare) Finset.univ (fun r => (ySrc c r).view.set) fun r _ r' _ h => ySrc_disjoint c r r' h]

omit [FloatOps F] in
/-- The result is the rows copied, those received from the `y` neighbour and those the `z` neighbour relays. -/
theorem o_split (c : Dev nD) (f : (cc0_stg1_0 : Ref sig .tc).ty.Contents (Elt F)) :
    oPts c Finset.univ f = iprop(oPts c (lDst c).view.set f ∗ oPts c (holds c) f ∗ oPts c (holds (zpeer c)) f) := by
  unfold oPts
  rw [← out_cover c, both (pointsTo_union (out_disjoint₁ c)), both (pointsTo_union (out_disjoint₂ c))]

omit [FloatOps F] in
/-- The rows `c` receives from its `y` neighbour, by chunks. -/
theorem holds_split (d c : Dev nD) (f : (cc0_stg1_0 : Ref sig .tc).ty.Contents (Elt F)) :
    oPts d (holds c) f = bigSep Finset.univ fun r => oPts d (hold c r).view.set f := by
  unfold oPts holds
  rw [pointsTo_biUnion (ℓ := (d : Thread nD τ).loc cc0_stg1_0) (f := f) (q := fullShare) Finset.univ (fun r => (hold c r).view.set) fun r _ r' _ h => hold_disjoint c r r' h]

omit [FloatOps F] in
theorem holds_any (d c : Dev nD) :
    iprop(∃ f, oPts (F := F) d (holds c) f) ⊢ bigSep Finset.univ fun r => iprop(∃ f, oPts (F := F) d (hold c r).view.set f) := by
  iintro ⟨%f, H⟩
  ihave H := (Entails.of_eq (holds_split d c f)) $$ H
  have h : (bigSep Finset.univ fun r => oPts (F := F) d (hold c r).view.set f) ⊢ bigSep Finset.univ fun r => iprop(∃ f, oPts (F := F) d (hold c r).view.set f) :=
    bigSep_mono fun r _ => show oPts (F := F) d (hold c r).view.set f ⊢ iprop(∃ f, oPts (F := F) d (hold c r).view.set f) from by
      iintro H; iexists f; iexact H
  iapply h
  iexact H

/-! ## What a device starts from and leaves -/

/-- The tokens of the duties device `c` pays. -/
def payToks (c : Dev nD) : sProp 𝕄 :=
  iprop(dutyTok ER (barCell (ypeer c)) 0 true ∗ dutyTok ER (barCell (zpeer c)) 0 false ∗ dutyTok ER (locCell c) 0 false
    ∗ (bigSep Finset.univ fun r => dutyTok ER (chunkCell c 0 r) 0 false) ∗ (bigSep Finset.univ fun r => dutyTok ER (chunkCell (ypeer c) 1 r) 0 false)
    ∗ (bigSep Finset.univ fun r => dutyTok ER (chunkCell c 2 r) 0 false) ∗ (bigSep Finset.univ fun r => dutyTok ER (chunkCell (zpeer c) 3 r) 0 false))
/-- Its positions, at round `n` of all its semaphores. -/
def positions (c : Dev nD) (n : ℕ) : sProp 𝕄 := bigSep Finset.univ fun k : CI => atPos ER (kcell (c, k)) n ∅ 0
def linear (c : Dev nD) : sProp 𝕄 := iprop(positions (F := F) c 0 ∗ payToks (F := F) c)
/-- The credits it waits with for what its neighbours pay. -/
def credits (c : Dev nD) : sProp 𝕄 :=
  iprop(cred (tallyAt (barCell c) () 2) ∗ (bigSep Finset.univ fun r => cred (tallyAt (chunkCell c 1 r) () NC))
    ∗ (bigSep Finset.univ fun r => cred (tallyAt (chunkCell c 3 r) () NC)))
def ghost (K : Dev nD × CI → ℕ) (c : Dev nD) : sProp 𝕄 := iprop(records m ρ K ∗ linear (F := F) c)
/-- What device `c`'s body starts from, -/
def Φ₀ (c : Dev nD) : sProp 𝕄 := iprop((∃ K, ghost m ρ K c) ∗ credits (F := F) c ∗ levAts L lv)
/-- and what it leaves: every semaphore at zero. -/
def Φ₁ (c : Dev nD) : sProp 𝕄 := bigSep Finset.univ fun k : CI => semVal (kcell (c, k)) 0

variable (K : Dev nD × CI → ℕ)

omit [FloatOps F] in
/-- Every semaphore of a device closes after its one round. -/
theorem close_all (c : Dev nD) : iprop(records m ρ K ∗ positions (F := F) c 1) ⊢ |={Set.univ}=> Φ₁ (F := F) c := by
  unfold positions Φ₁
  refine (bigSep_with_persistent (R := records m ρ K) (Ψ := fun k : CI => iprop(|={Set.univ}=> semVal (kcell (c, k)) 0)) fun k _ => ?_).trans (bigSep_fupd _ _)
  iintro ⟨#HR, Hat⟩
  ihave #Hi := (inv_at m ρ K (c, k)) $$ HR
  iapply (Rounds.cell_close ER (sched m ρ) (Set.mem_univ (K (c, k))) (fun h => h) (R := 1) (duties_later m ρ (kcell (c, k))))
  isplitr; · iexact Hi
  iexact Hat

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- Everything device `c` still has to do after the handshake, -/
theorem wp_rest (c : Dev nD) (W : Waits sig Unit) {Q : PUnit → sProp 𝕄} :
    iprop(records m ρ K ∗ levAts L lv ∗ owes (c : Thread nD τ) (owedY c chunks) W
        ∗ (bigSep Finset.univ (sendIn m ρ c)) ∗ (bigSep Finset.univ (relayIn (F := F) c))
        ∗ (bigSep Finset.univ fun r => iprop(cred (tallyAt (chunkCell c 3 r) () NC) ∗ atPos ER (chunkCell c 0 r) 0 ∅ 0 ∗ atPos ER (chunkCell c 2 r) 0 ∅ 0 ∗ atPos ER (chunkCell c 3 r) 0 ∅ 0))
        ∗ cred (tallyAt (locCell c) () NL) ∗ atPos ER (locCell c) 0 ∅ 0)
      ⊢ iprop((((∃ W, owes (c : Thread nD τ) 0 W) ∗ locPay m ρ c ∗ atPos ER (locCell c) 1 ∅ 0
              ∗ (bigSep Finset.univ fun r => atPos ER (chunkCell c 1 r) 1 ∅ 0) ∗ (bigSep Finset.univ (drainOut m ρ c))) -∗ |={Set.univ}=> Q ⟨⟩)
          -∗ wp frame (wpE (defs₀ (F := F)) 𝒱₀ (c : Thread nD τ) none) Set.univ
            (sendsY c chunks <| relays c chunks <| drains c chunks <|
              .op (.waitDma2 locS (lSrc c) (lDst c) (View.wordExact_bits rfl) (View.wordExact_bits rfl)) fun _ => .ret ⟨⟩) Q) := by
  iintro ⟨#HR, #Hlev, HO, Hs, Hr, Hd, HcL, HaL⟩ Hk
  ihave Hs := (Entails.of_eq (chunks_eq _)) $$ Hs
  ihave Hr := (Entails.of_eq (chunks_eq _)) $$ Hr
  iapply (wp_sendsY m ρ K c W chunks) $$ [HO Hs]
  · isplitr; · iexact HR
    isplitl [HO]; · iexact HO
    iexact Hs
  iintro ⟨HO, Hc0⟩
  iapply (wp_relays m ρ K c chunks) $$ [HO Hr]
  · isplitr; · iexact HR
    isplitr; · iexact Hlev
    isplitl [HO]; · iexists W; unfold owedY; iexact HO
    iexact Hr
  iintro ⟨HO, Hr⟩
  ihave Hr := (Entails.of_eq (chunks_eq _).symm) $$ Hr
  ihave Hc0 := (Entails.of_eq (chunks_eq _).symm) $$ Hc0
  unfold relayOut
  ihave Hr := (Entails.of_eq (bigSep_sep' _ _ _)) $$ Hr
  icases Hr with ⟨Hc2, Ha1⟩
  ihave Hd : bigSep Finset.univ (drainIn (F := F) c) $$ [Hd Hc0 Hc2]
  · unfold drainIn
    simp only [bigSep_sep']
    icases Hd with ⟨Hc3, Ha0, Ha2, Ha3⟩
    isplitl [Hc0 Ha0]
    · isplitl [Hc0]; · iexact Hc0
      iexact Ha0
    isplitl [Hc2 Ha2]
    · isplitl [Hc2]; · iexact Hc2
      iexact Ha2
    isplitl [Hc3]; · iexact Hc3
    iexact Ha3
  ihave Hd := (Entails.of_eq (chunks_eq _)) $$ Hd
  iapply (wp_drains m ρ K c chunks) $$ [HO Hd]
  · isplitr; · iexact HR
    isplitr; · iexact Hlev
    isplitl [HO]; · iexact HO
    iexact Hd
  iintro ⟨⟨%W', HO⟩, Hd⟩
  ihave Hd := (Entails.of_eq (chunks_eq _).symm) $$ Hd
  ihave #Hi := (inv_at m ρ K (biLoc c)) $$ HR
  have hw : ∀ Z : PUnit → sProp 𝕄, wpE (defs₀ (F := F)) 𝒱₀ (c : Thread nD τ) none Set.univ
      (.waitDma2 locS (lSrc c) (lDst c) (View.wordExact_bits rfl) (View.wordExact_bits rfl)) Z
      = waitSpec (c : Thread nD τ) Set.univ (.dma locS) NL Z := fun Z => by rw [← credit_lDst c]; exact wpE_waitDma2_eq 𝒱₀ (c : Thread nD τ) none Set.univ Z
  iapply (Rounds.wp_wait_rest_token (defs := defs₀ (F := F)) (Q := Q) 𝒱₀ ER (sched m ρ) (c : Thread nD τ) none (κ := K (biLoc c))
      hw (Set.mem_univ _) () (O := 0) (W := W') (R := 0) (m := 0) (T := ∅) (by rw [Nat.zero_add, expect_loc])) $$ [HcL HO HaL]
  · isplitr; · iexact Hi
    isplitl [HcL]; · iexact HcL
    isplitl [HO]; · iexact HO
    isplitr; · iapply (mayWait c (.dma locS) (Above.zero _)); iexact Hlev
    iexact HaL
  iintro ⟨HO, HaL, -, Hpay⟩
  ihave Hp := (Entails.of_eq (rest_loc m ρ c)) $$ Hpay
  rw [wp_ret]
  iapply Hk
  isplitl [HO]; · iexists _; iexact HO
  isplitl [Hp]; · iexact Hp
  isplitl [HaL]; · iexact HaL
  isplitl [Ha1]; · iexact Ha1
  iexact Hd

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- and everything from the start, the two buffers whole. -/
theorem wp_device (c : Dev nD) (W : Waits sig Unit) (g : (cc0_stg1_0 : Ref sig .tc).ty.Contents (Elt F)) {Q : PUnit → sProp 𝕄} :
    iprop(ghost m ρ K c ∗ credits (F := F) c ∗ levAts L lv ∗ owes (c : Thread nD τ) (O₀ c) W ∗ xPts c Finset.univ (xstg m ρ c) ∗ oPts c Finset.univ g)
      ⊢ iprop(((Φ₁ (F := F) c ∗ (∃ W, owes (c : Thread nD τ) 0 W) ∗ xPts c Finset.univ (xstg m ρ c) ∗ oPts c Finset.univ (outAt m ρ c)) -∗ Q ⟨⟩)
          -∗ wp frame (wpE (defs₀ (F := F)) 𝒱₀ (c : Thread nD τ) none) Set.univ (onDevice c) Q) := by
  unfold ghost linear positions payToks credits
  rw [x_split, o_split, o_split, cells_eq, own_eq]
  iintro ⟨⟨#HR, ⟨HaB, HaL, Ha0, Ha1, Ha2, Ha3⟩, HtY, HtZ, HtL, Ht0, Ht1, Ht2, Ht3⟩, ⟨HcB, Hc1, Hc3⟩, #Hlev, HO, ⟨HxL, HxS, HxR⟩, HoL, HoY, HoZ⟩ Hk
  ihave #HiL := (inv_at m ρ K (biLoc c)) $$ HR
  ihave #HrL := (reached_at m ρ K (biLoc c)) $$ HR
  ihave #HiB := (inv_at m ρ K (biBar c)) $$ HR
  ihave #HiY := (inv_at m ρ K (biBar (ypeer c))) $$ HR
  ihave #HrY := (reached_at m ρ K (biBar (ypeer c))) $$ HR
  ihave #HiZ := (inv_at m ρ K (biBar (zpeer c))) $$ HR
  ihave #HrZ := (reached_at m ρ K (biBar (zpeer c))) $$ HR
  unfold onDevice
  have hl : iprop((((lDst c).view.loc (c : Thread nD τ)) ↦[(lDst c).view.set]{fullShare} ((lDst c).view.write (Elt F) g ((lSrc c).view.read (Elt F) (xstg m ρ c)) Finset.univ))
      ∗ (((lSrc c).view.loc (c : Thread nD τ)) ↦[(lSrc c).view.set]{fullShare} xstg m ρ c)) ⊢ (sched m ρ).payload (locCell c) 0 false := by
    rw [payload_loc]; exact sep_mono_left (Entails.of_eq (landed_local m ρ c g))
  iapply (Rounds.wp_copy_pointsTo (defs := defs₀ (F := F)) (Q := Q) 𝒱₀ ER (sched m ρ) (c : Thread nD τ) none (κ := K (biLoc c))
    (src := lSrc c) (dst := lDst c) (sem := .dma locS) (fs := xstg m ρ c) (q := fullShare) (r := 0) (d := false) (fd := g)
    (by rw [duties_loc]; exact Finset.mem_singleton_self _) () NL (credit_lDst c) (amount_loc m ρ c false) hl (Es := Set.univ)) $$ [HxL HoL HtL]
  · isplitr; · iexact HiL
    isplitl [HxL]; · unfold xPts; iexact HxL
    isplitl [HoL]; · unfold oPts; iexact HoL
    isplitl [HtL]; · iexact HtL
    iexact HrL
  iintro HcL
  rw [dev1_eq c, dev2_eq c]
  iapply (Rounds.wp_signal (defs := defs₀ (F := F)) (Q := Q) 𝒱₀ ER (sched m ρ) (c : Thread nD τ) none (dst := (ypeer c : Thread nD τ)) (κ := K (biBar (ypeer c)))
      (d := true) (by rw [duties_bar]; exact Finset.mem_univ _) (amount_bar m ρ (ypeer c) true) () (O₁ c) rfl) $$ [HO HtY HoY]
  · isplitr; · iexact HiY
    isplitl [HO]; · iexact HO
    isplitl [HtY]; · iexact HtY
    isplitl [HoY]
    · rw [payload_bar]; unfold barPay; rw [if_pos rfl, ypeer_ypeer]
      iexists g; iexact HoY
    iexact HrY
  iintro HO
  unfold O₁
  iapply (Rounds.wp_signal (defs := defs₀ (F := F)) (Q := Q) 𝒱₀ ER (sched m ρ) (c : Thread nD τ) none (dst := (zpeer c : Thread nD τ)) (κ := K (biBar (zpeer c)))
      (d := false) (by rw [duties_bar]; exact Finset.mem_univ _) (amount_bar m ρ (zpeer c) false) () (owedY c chunks) rfl) $$ [HO HtZ HoZ]
  · isplitr; · iexact HiZ
    isplitl [HO]; · iexact HO
    isplitl [HtZ]; · iexact HtZ
    isplitl [HoZ]
    · rw [payload_bar]; unfold barPay; rw [if_neg Bool.false_ne_true, zpeer_zpeer]
      iexists g; iexact HoZ
    iexact HrZ
  iintro HO
  iapply (Rounds.wp_wait_rest_token (defs := defs₀ (F := F)) (Q := Q) 𝒱₀ ER (sched m ρ) (c : Thread nD τ) none (κ := K (biBar c))
      (wpE_semWait_eq 𝒱₀ (c : Thread nD τ) none Set.univ) (Set.mem_univ _) () (O := owedY c chunks) (W := W) (R := 0) (m := 0) (T := ∅)
      (by rw [Nat.zero_add, expect_bar])) $$ [HcB HO HaB]
  · isplitr; · iexact HiB
    isplitl [HcB]; · iexact HcB
    isplitl [HO]; · iexact HO
    isplitr; · iapply (mayWait c (.reg barS) (above_owedY (b := 1) (by decide) c chunks)); iexact Hlev
    iexact HaB
  iintro ⟨HO, HaB, -, Hpay⟩
  ihave Hp := (Entails.of_eq (rest_bar m ρ c)) $$ Hpay
  unfold barPay
  icases Hp with ⟨HpY, HpZ⟩
  ihave HpY := (Entails.of_eq (if_pos rfl)) $$ HpY
  ihave HpZ := (Entails.of_eq (if_neg Bool.false_ne_true)) $$ HpZ
  ihave HpY := (holds_any (F := F) (ypeer c) (ypeer c)) $$ HpY
  ihave HpZ := (holds_any (F := F) (zpeer c) c) $$ HpZ
  iapply (wp_rest m ρ K c _) $$ [HO HxS HpY Ht0 Ht1 Hc1 Ha1 HpZ Ht2 Ht3 Hc3 Ha0 Ha2 Ha3 HcL HaL]
  · isplitr; · iexact HR
    isplitr; · iexact Hlev
    isplitl [HO]; · iexact HO
    isplitl [HxS HpY Ht0 Ht1]
    · unfold sendIn
      simp only [bigSep_sep']
      isplitl [HxS]; · iexact HxS
      isplitl [HpY]; · iexact HpY
      isplitl [Ht0]; · iexact Ht0
      iexact Ht1
    isplitl [Hc1 Ha1 HpZ Ht2 Ht3]
    · unfold relayIn
      simp only [bigSep_sep']
      isplitl [Hc1]; · iexact Hc1
      isplitl [Ha1]; · iexact Ha1
      isplitl [HpZ]; · iexact HpZ
      isplitl [Ht2]; · iexact Ht2
      iexact Ht3
    isplitl [Hc3 Ha0 Ha2 Ha3]
    · simp only [bigSep_sep']
      isplitl [Hc3]; · iexact Hc3
      isplitl [Ha0]; · iexact Ha0
      isplitl [Ha2]; · iexact Ha2
      iexact Ha3
    isplitl [HcL]; · iexact HcL
    iexact HaL
  iintro ⟨HO, Hl, HaL, Ha1, Hd⟩
  unfold locPay drainOut
  icases Hl with ⟨HoL, HxL⟩
  ihave Hd := (Entails.of_eq (bigSep_sep' _ _ _)) $$ Hd
  icases Hd with ⟨Hd0, Hd⟩
  ihave Hd := (Entails.of_eq (bigSep_sep' _ _ _)) $$ Hd
  icases Hd with ⟨Hd2, Hd3⟩
  ihave Hd0 := (Entails.of_eq (bigSep_sep' _ _ _)) $$ Hd0
  icases Hd0 with ⟨HxS, Ha0⟩
  ihave Hd2 := (Entails.of_eq (bigSep_sep' _ _ _)) $$ Hd2
  icases Hd2 with ⟨HoY, Ha2⟩
  ihave Hd3 := (Entails.of_eq (bigSep_sep' _ _ _)) $$ Hd3
  icases Hd3 with ⟨HoZ, Ha3⟩
  ihave HoY := (Entails.of_eq (holds_split c c (outAt m ρ c)).symm) $$ HoY
  ihave HoZ := (Entails.of_eq (holds_split c (zpeer c) (outAt m ρ c)).symm) $$ HoZ
  imod (close_all m ρ K c) $$ [HaB HaL Ha0 Ha1 Ha2 Ha3] with Hz
  · isplitr; · iexact HR
    unfold positions
    rw [cells_eq, own_eq]
    isplitl [HaB]; · iexact HaB
    isplitl [HaL]; · iexact HaL
    isplitl [Ha0]; · iexact Ha0
    isplitl [Ha1]; · iexact Ha1
    isplitl [Ha2]; · iexact Ha2
    iexact Ha3
  imodintro
  iapply Hk
  isplitl [Hz]; · iexact Hz
  isplitl [HO]; · iexact HO
  isplitl [HxL HxS HxR]
  · isplitl [HxL]; · iexact HxL
    isplitl [HxS]; · iexact HxS
    iexact HxR
  isplitl [HoL]; · iexact HoL
  isplitl [HoY]; · iexact HoY
  iexact HoZ

/-! ## The pipeline's obligation -/

omit [FloatOps F] in
theorem windows_eq (Φ : Fin cfg0.W → sProp 𝕄) : bigSep Finset.univ Φ = iprop(Φ (0 : Fin 2) ∗ Φ (1 : Fin 2)) := bigSep_W0 Φ

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ c ∗ (dats m ρ 0 c).owesAt () t₀.succ ∗ stg c cc0_stg0_0 (xstg m ρ c) ∗ stg c cc0_stg1_0 (outAt m ρ c))

/-- The kernel's body takes the pipeline's precondition to its postcondition. -/
theorem sound_body (c : Dev nD) :
    bodyPre m ρ c ⊢ wp frame (wpE (defs₀ (F := F)) 𝒱₀ c none) Set.univ
      (cc0_body (F := F) xM (Memref.isWhole_whole _) oM (Memref.isWhole_whole _) cc0_scratch0 cc0_scratch1 cc0_scratch2 cc0_scratch3 cc0_scratch4)
      (fun _ => bodyPost m ρ c) := by
  rw [body_eq, wp_deviceId]
  unfold bodyPre Φ₀
  iintro ⟨⟨⟨%K, Hg⟩, Hc, #Hlev⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  iapply (wp_device m ρ K c W g1 (Q := fun _ => bodyPost m ρ c)) $$ [Hg Hc HO Hx Hout]
  · isplitl [Hg]; · iexact Hg
    isplitl [Hc]; · iexact Hc
    isplitr; · iexact Hlev
    isplitl [HO]; · iexact HO
    isplitl [Hx]; · unfold xPts; iexact Hx
    unfold oPts; iexact Hout
  iintro ⟨Hz, ⟨%W', HO⟩, Hx, Hout⟩
  unfold bodyPost Dat.owesAt Pipeline.owesWithin
  rw [show (dats m ρ 0 c).owed t₀.succ = 0 from rfl]
  isplitl [Hz]; · iexact Hz
  isplitl [HO]
  · iexists W'
    isplitr; · ipureintro; exact fun _ _ => Or.inl trivial
    iexact HO
  isplitl [Hx]
  · iexists _; isplitr; · (ipureintro; rfl)
    unfold xPts; iexact Hx
  iexists _; isplitr; · (ipureintro; rfl)
  unfold oPts; iexact Hout

set_option maxRecDepth 4000 in
/-- The same, as the pipeline asks for it. -/
theorem body_obligation (c : Dev nD) : BodyObligation (dats (F := F) m ρ 0 c) (defs₀ (F := F)) 𝒱₀ () Set.univ := fun t => by
  rw [fin_N t]
  rw [windows_eq, windows_eq]
  simp only [owns_whole_eq]
  exact sound_body m ρ c

end Cert.KernelIdeal.AllToAll

end
-- ==== Proof.KernelIdeal.Run.lean ====
/- The launch: the ghost state of all devices made and dealt, the credits of what the devices owe each other, and the run of the
   whole program from any memory. -/
module

public import proofs.«01_k».proof.Proof.KernelIdeal.Core
public import Idealize.ShloMosaic.Lib.Pipeline.CollectiveSegs

@[expose] public section

noncomputable section

namespace Cert.KernelIdeal.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

set_option maxRecDepth 8000 in
/-- A device's own semaphores are its kernel's, pairwise different and none of the pipeline's. -/
theorem ownSemFacts : Pipeline.OwnSemFacts cfg0.spec osem := by decide

theorem csem_injective : Function.Injective csem := by
  have hne : ∀ k, SemLoc.reg barS ≠ osem k := fun k h => by
    rcases k with _ | _ <;> cases h
  rintro (_ | k) (_ | k') h
  · rfl
  · exact absurd h (hne k')
  · exact absurd h.symm (hne k)
  · rw [ownSemFacts.inj h]

theorem kcell_injective : Function.Injective (kcell : Dev nD × CI → GSem nD τ sig) := by
  rintro ⟨c, k⟩ ⟨c', k'⟩ h
  have h1 : c = c' := congrArg (fun g : GSem nD τ sig => g.1.1) h
  have h2 : csem k = csem k' := congrArg Prod.snd h
  rw [h1, csem_injective h2]
def allCells : Finset (GSem nD τ sig) := Finset.univ.map ⟨kcell, kcell_injective⟩

/-- The duties of a device's semaphores: two of its barrier, one of each other. -/
abbrev TI : Type := Bool ⊕ OI
abbrev tokCell : TI → CI
  | .inl _ => .inl ()
  | .inr k => .inr k
abbrev tokDuty : TI → Bool
  | .inl b => b
  | .inr _ => false
abbrev tokOf (ck : Dev nD × TI) : GSem nD τ sig × ℕ × Bool := (kcell (ck.1, tokCell ck.2), 0, tokDuty ck.2)
theorem tokOf_injective : Function.Injective (tokOf : Dev nD × TI → GSem nD τ sig × ℕ × Bool) := by
  rintro ⟨c, k⟩ ⟨c', k'⟩ h
  have h1 : (c, tokCell k) = (c', tokCell k') := kcell_injective (congrArg (fun x : GSem nD τ sig × ℕ × Bool => x.1) h)
  have h2 : tokDuty k = tokDuty k' := congrArg (fun x : GSem nD τ sig × ℕ × Bool => x.2.2) h
  have h3 : c = c' := congrArg Prod.fst h1
  have h4 : tokCell k = tokCell k' := congrArg Prod.snd h1
  have h5 : k = k' := by
    rcases k with b | k <;> rcases k' with b' | k'
    · exact congrArg Sum.inl h2
    · cases h4
    · cases h4
    · exact congrArg Sum.inr (Sum.inr.inj h4)
  rw [h3, h5]
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 := bigSep Finset.univ fun k : TI => dutyTok ER (kcell (c, tokCell k)) 0 (tokDuty k)

omit [FloatOps F] in
theorem toks_eq (c : Dev nD) : toks (F := F) c = iprop((dutyTok ER (barCell c) 0 true ∗ dutyTok ER (barCell c) 0 false) ∗ dutyTok ER (locCell c) 0 false
    ∗ (bigSep Finset.univ fun r => dutyTok ER (chunkCell c 0 r) 0 false) ∗ (bigSep Finset.univ fun r => dutyTok ER (chunkCell c 1 r) 0 false)
    ∗ (bigSep Finset.univ fun r => dutyTok ER (chunkCell c 2 r) 0 false) ∗ (bigSep Finset.univ fun r => dutyTok ER (chunkCell c 3 r) 0 false)) := by
  unfold toks
  rw [bigSep_univ_sum, own_eq, bigSep_univ_eq_bigSepL [true, false] (by decide) (by decide), bigSepL_cons_cons, bigSepL_singleton]
  rfl

omit [FloatOps F] in
/-- The tokens dealt to the devices that pay: those a device's barrier and its arrivals need go to its neighbours. -/
theorem toks_dealt : (bigSep Finset.univ fun c : Dev nD => (toks c : sProp 𝕄)) ⊢ bigSep Finset.univ fun c : Dev nD => payToks c := by
  rw [bigSep_congr fun c _ => toks_eq c]
  unfold payToks
  simp only [bigSep_sep']
  rw [bigSep_univ_equiv yswap (fun c : Dev nD => (dutyTok ER (barCell c) 0 true : sProp 𝕄)),
    bigSep_univ_equiv zswap (fun c : Dev nD => (dutyTok ER (barCell c) 0 false : sProp 𝕄)),
    bigSep_univ_equiv yswap (fun c : Dev nD => (bigSep Finset.univ fun r => dutyTok ER (chunkCell c 1 r) 0 false : sProp 𝕄)),
    bigSep_univ_equiv zswap (fun c : Dev nD => (bigSep Finset.univ fun r => dutyTok ER (chunkCell c 3 r) 0 false : sProp 𝕄))]
  iintro ⟨⟨HY, HZ⟩, HL, H0, H1, H2, H3⟩
  isplitl [HY]; · iexact HY
  isplitl [HZ]; · iexact HZ
  isplitl [HL]; · iexact HL
  isplitl [H0]; · iexact H0
  isplitl [H1]; · iexact H1
  isplitl [H2]; · iexact H2
  iexact H3

/-! ## The ghost state made and dealt -/

/-- What the launch element deals device `c`, -/
def G (c : Dev nD) : sProp 𝕄 :=
  iprop((bigSep Finset.univ fun k : CI => roundState ER (sched m ρ) (kcell (c, k)) 0)
    ∗ (positions (F := F) c 0 ∗ bigSep Finset.univ fun k : CI => reached ER (kcell (c, k)) 0) ∗ toks (F := F) c)
/-- and what the device starts with. -/
def G' (c : Dev nD) : sProp 𝕄 := iprop(∃ K, ghost m ρ K c)

omit [FloatOps F] in
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G positions; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's semaphores at zero are the barrier's and its own. -/
theorem sems_eq (c : Dev nD) : Φ₁ (F := F) c
    = iprop(unscopedSems0 c ∗ Pipeline.ownSems0 (Ix := Unit) (Name := ℕ) (U := UU) (Lvl := ℕ) (Val := Elt F) (τ := τ) osem c) := by
  rw [unscopedSems0_eq]; unfold Φ₁ Pipeline.ownSems0; rw [cells_eq]

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (sched m ρ) κ (kcell (c, k))))
          ∗ (positions (F := F) c 0 ∗ bigSep Finset.univ fun k : CI => reached ER (kcell (c, k)) 0) ∗ toks (F := F) c) := by
  unfold G
  iintro ⟨Hos, Hus, Hst, Hat, Htok⟩
  ihave Hv : Φ₁ (F := F) c $$ [Hos Hus]
  · rw [sems_eq]
    isplitl [Hus] <;> iassumption
  unfold Φ₁
  have hinv : iprop((bigSep Finset.univ fun k : CI => semVal (kcell (c, k)) 0) ∗ bigSep Finset.univ fun k : CI => roundState ER (sched m ρ) (kcell (c, k)) 0)
      ⊢ (|={Set.univ}=> bigSep Finset.univ fun k : CI => iprop(∃ κ : ℕ, cellInv ER (sched m ρ) κ (kcell (c, k))) : sProp 𝕄) := by
    rw [← bigSep_sep']
    exact (bigSep_mono fun k _ => (Rounds.body_intro ER (sched m ρ) (kcell (c, k))).trans inv_alloc).trans (bigSep_fupd _ _)
  imod hinv $$ [Hv Hst] with Hinv
  · isplitl [Hv] <;> iassumption
  imodintro
  isplitl [Hinv]; · iexact Hinv
  isplitl [Hat]; · iexact Hat
  iexact Htok

omit [FloatOps F] in
theorem regroup :
    (bigSep Finset.univ fun c : Dev nD => iprop((bigSep Finset.univ fun k : CI => iprop(∃ κ : ℕ, cellInv ER (sched m ρ) κ (kcell (c, k))))
          ∗ (positions (F := F) c 0 ∗ bigSep Finset.univ fun k : CI => reached ER (kcell (c, k)) 0) ∗ toks (F := F) c) : sProp 𝕄)
      ⊢ bigSep Finset.univ (G' m ρ) := by
  rw [bigSep_sep', bigSep_sep', bigSep_sep', ← bigSep_univ_prod (fun ck : Dev nD × CI => iprop(∃ κ : ℕ, cellInv ER (sched m ρ) κ (kcell ck))),
    ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (sched m ρ) κ (kcell ck) : sProp 𝕄))) $$ HI
  icases HK with ⟨%K, #HI⟩
  ihave Htk := (toks_dealt (F := F)) $$ Htok
  have hg : ∀ c ∈ (Finset.univ : Finset (Dev nD)), iprop(records m ρ K ∗ linear (F := F) c) ⊢ G' m ρ c := fun c _ => by
    unfold G' ghost
    iintro H
    iexists K; iexact H
  iapply (bigSep_with_persistent hg)
  isplitr
  · unfold records; isplitl; · iexact HI
    iexact HR
  · unfold linear
    rw [bigSep_sep']
    isplitl [Hat]; · iexact Hat
    iexact Htk

omit [FloatOps F] in
/-- All devices' semaphores and ghost state at once make what they start with. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- What the `z` neighbours owe for the chunks `rs`; -/
theorem creds_z (c : Dev nD) : ∀ rs, (Pipeline.launchCred (fun d => owedZ d rs) c : sProp 𝕄) ⊢ bigSepL rs fun r => cred (tallyAt (chunkCell c 3 r) () NC)
  | [] => by unfold owedZ; rw [Pipeline.launchCred_zero]; exact BI.Entails.refl _
  | r :: rs => by
    unfold owedZ
    rw [Pipeline.launchCred_add, bigSepL_cons']
    iintro ⟨H, Hr⟩
    isplitl [Hr]
    · iapply (Pipeline.launchCred_tallyAt (.dma (chunkS 3 r)) zpeer zpeer zpeer_zpeer zpeer_zpeer () NC c); iexact Hr
    iapply (creds_z c rs); iexact H
omit [FloatOps F] in
/-- that and what the `y` neighbours owe for the chunks `rs`; -/
theorem creds_y (c : Dev nD) : ∀ rs, (Pipeline.launchCred (fun d => owedY d rs) c : sProp 𝕄)
    ⊢ iprop((bigSepL rs fun r => cred (tallyAt (chunkCell c 1 r) () NC)) ∗ bigSepL chunks fun r => cred (tallyAt (chunkCell c 3 r) () NC))
  | [] => by
    unfold owedY
    iintro H
    isplitr; · rw [bigSepL_nil]; iempintro
    iapply (creds_z c chunks); iexact H
  | r :: rs => by
    unfold owedY
    rw [Pipeline.launchCred_add, bigSepL_cons']
    iintro ⟨H, Hr⟩
    ihave H := (creds_y c rs) $$ H
    icases H with ⟨H1, H3⟩
    isplitl [Hr H1]
    · isplitl [Hr]
      · iapply (Pipeline.launchCred_tallyAt (.dma (chunkS 1 r)) ypeer ypeer ypeer_ypeer ypeer_ypeer () NC c); iexact Hr
      iexact H1
    iexact H3
omit [FloatOps F] in
/-- all credits a device starts with. -/
theorem creds (c : Dev nD) : (Pipeline.launchCred O₀ c : sProp 𝕄) ⊢ credits (F := F) c := by
  rw [show (O₀ : Dev nD → CellTallies nD τ sig Unit) = fun d => O₁ d + tallyAt (barCell (ypeer d)) () 1 from rfl, Pipeline.launchCred_add,
    show (O₁ : Dev nD → CellTallies nD τ sig Unit) = fun d => owedY d chunks + tallyAt (barCell (zpeer d)) () 1 from rfl, Pipeline.launchCred_add]
  unfold credits
  rw [chunks_eq, chunks_eq]
  iintro ⟨⟨H, HZ⟩, HY⟩
  ihave HY := (Pipeline.launchCred_tallyAt (.reg barS) ypeer ypeer ypeer_ypeer ypeer_ypeer () 1 c) $$ HY
  ihave HZ := (Pipeline.launchCred_tallyAt (.reg barS) zpeer zpeer zpeer_zpeer zpeer_zpeer () 1 c) $$ HZ
  ihave H := (creds_y c chunks) $$ H
  isplitl [HY HZ]
  · rw [show tallyAt (barCell c) () 2 = (tallyAt (barCell c) () 1 + tallyAt (barCell c) () 1 : CellTallies nD τ sig Unit) from (tallyAt_add _ _ 1 1).symm]
    iapply (cred_add _ _).2
    isplitl [HY]; · iexact HY
    iexact HZ
  iexact H

/-! ## The side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(Φ₀ m ρ c ∗ emp) := by
  iintro ⟨-, Hlev, Hcr, -, HG⟩
  ihave Hc := (creds (F := F) c) $$ Hcr
  imodintro
  unfold Φ₀ G'
  isplitl
  · isplitl [HG]; · iexact HG
    isplitl [Hc]; · iexact Hc
    iexact Hlev
  · iempintro

theorem phi0_intro (c : Dev nD) :
    iprop(Φ₀ m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  iintro ⟨Hs, -, -⟩
  iexact Hs

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, sems_eq]
  iintro ⟨Hu, Ho⟩
  isplitl [Hu]; · iexact Hu
  isplitl [Ho]; · iexact Ho
  iempintro

theorem share_eq (c : Dev nD) (w : Fin cfg0.W) : (dats m ρ 0 c).share w = fullShare := by unfold Dat.share; split <;> rfl

theorem stage_level (w : Fin cfg0.W) (s : Fin (cfg0.win w).nbuf) : lvAt (.dma ((cfg0.win w).sem s)) = 0 := by
  fin_cases w <;> fin_cases s <;> decide

theorem waits (c : Dev nD) : (levAts L lv : sProp 𝕄) ⊢ Pipeline.cellsWaits cfgs (dats m ρ) () 0 c :=
  Pipeline.cellsWaits_intro cfgs (dats m ρ) () 0 c fun w s t => mayWait c _ (by
    rw [stage_level w s]
    rcases t with ⟨_ | _, ht⟩
    · exact above_O₀ c
    · exact Above.zero 0)

/-! ## The run -/

/-- What a window's array holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair execution on the eight devices ends, with both arrays
    of every device at the named contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := Φ₀ m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block of `x` is unchanged. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.AllToAll

end
-- ==== Proof.Value.lean ====
/- The claims: what the two kernels' runs and the reference's run say of the arrays. The result of device `c` is column half
   `y` of the whole array, `y` its coordinate; the reference returns the whole array as it is. -/
module

public import proofs.«01_k».proof.Defs
public import proofs.«01_k».proof.Proof.KernelIdeal.Run
public import proofs.«01_k».proof.Proof.Kernel.Run
public import proofs.«01_k».proof.Proof.Gen.ReferenceIdeal
public import Idealize.ShloMosaic.Lib.StableHlo.Run
public import Idealize.ShloMosaic.Lib.Layout

@[expose] public section

noncomputable section

namespace Cert.AllToAll

open Idealize.ShloMosaic Idealize.ShloMosaic.TcCoe Idealize.SL.Sem
open Idealize.ShloMosaic.Pipeline (Dat)

/-! ## The result as a block of the whole array -/

section Value

open Cert.KernelIdeal Cert.KernelIdeal.Gen Cert.KernelIdeal.AllToAll

/-- If every device's block is its row half of the whole array `V`, every device's result is its column half of `V`. -/
theorem outOf_blocks {α : Type} (V : (⟨2, ![4096, 1024]⟩ : Shape).Idx → α) (X : Dev nD → S2048x1024.Idx → α)
    (hX : ∀ d : Dev nD, X d = Layout.blockN ⟨2, ![2048, 1024]⟩ ⟨2, ![4096, 1024]⟩ (Layout.meshBlock [2, 2, 2] ![[1], []] d) V) (c : Dev nD) :
    outOf X c = Layout.blockN ⟨2, ![4096, 512]⟩ ⟨2, ![4096, 1024]⟩ (Layout.meshBlock [2, 2, 2] ![[], [1]] c) V := by
  have hc : c.val < 8 := c.isLt
  funext i
  have h0 : (i 0).val < 4096 := (i 0).isLt
  unfold outOf
  rw [hX, Layout.blockN_apply, Layout.blockN_apply]
  congr 1
  refine funext (both_axes (Fin.ext ?_) (Fin.ext ?_))
  · show (((srcDev c (i 0).val).val / 2) % 2 * 1 + 0) * 2048 + (i 0).val % 2048 = 0 * 4096 + (i 0).val
    rw [srcDev_val]
    split <;> omega
  · show 0 * 1024 + (512 * ((c.val / 2) % 2) + (i 1).val) = ((c.val / 2) % 2 * 1 + 0) * 512 + (i 1).val
    omega

variable {F : FTy → Type} [FloatOps F] (m : (ℓ : Loc nD τ sig) → Buf (Elt F) ℓ) (ρ : Dev nD → PrngReg)

/-- The staged block is the array's. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- The result array ends holding what the body left in its staging buffer. -/
theorem finalA_out (c : Dev nD) : finalA m ρ c (1 : Fin 2) = outAt m ρ c := by
  have hz : (fun a => (win0_1.index (0 : Fin 1)) a * main_v1.ty.shape.size a) = fun _ => 0 := funext fun a => by fin_cases a <;> decide
  have hr : (win0_1.blk (0 : Fin 1)).view.read (Elt F) (finalA m ρ c (1 : Fin 2)) = finalA m ρ c (1 : Fin 2) :=
    Memref.read_access_unit_zero (Elt F) main_v1 hz (fun a => by fin_cases a <;> decide) _
  rw [← hr]
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

end Value

/-! ## The reference -/

section Reference

open Cert.ReferenceIdeal Cert.ReferenceIdeal.Gen

variable {F : FTy → Type} [FloatOps F]

/-- The reference runs no operation: its one array stays. -/
theorem run_reference (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_arg0) = m ((c.tc : Thread nD τ).loc main_arg0) :=
  (θ_run defs _ _).mono (fun _ h c => h c main_arg0)
    (StableHlo.run_seq (by decide) (by decide) defs main (fun _ => []) (fun _ => rfl) (fun _ => trivial) m ρ)

end Reference

/-! ## The claims -/

/-- The kernel runs, leaves its argument and every semaphore as they were; -/
theorem frame_kernel : Cert.quiescent_Kernel := by
  intro m ρ _
  exact (θ_run Cert.Kernel.defs _ _).mono
    (fun _ h => ⟨fun c => (h.1 c (0 : Fin 2)).trans (Cert.Kernel.AllToAll.finalA_x m ρ c), h.2⟩) (Cert.Kernel.AllToAll.run_main (F := Bits) m ρ)

/-- so does the kernel over the ideal floats; -/
theorem frame_ideal : Cert.quiescent_KernelIdeal := by
  intro m ρ _
  exact (θ_run Cert.KernelIdeal.defs _ _).mono
    (fun _ h => ⟨fun c => (h.1 c (0 : Fin 2)).trans (Cert.KernelIdeal.AllToAll.finalA_x m ρ c), h.2⟩) (Cert.KernelIdeal.AllToAll.run_main (F := Ideal) m ρ)

/-- and the reference. -/
theorem frame_reference : Cert.quiescent_ReferenceIdeal := by
  intro m ρ _
  exact (θ_run Cert.ReferenceIdeal.defs _ _).mono (fun r h => ⟨h, sem_eq_zero_of_no_sems (by decide) r.2⟩) (run_reference (F := Ideal) m ρ)

/-- The kernel computes the reference: every device's result is its column half of the whole array. -/
theorem value : Cert.algebraic_KernelIdeal_ReferenceIdeal := by
  intro m ρ m' ρ' _ hagree
  refine ⟨m' (((0 : Dev Cert.ReferenceIdeal.nD).tc : Thread _ Cert.ReferenceIdeal.τ).loc Cert.ReferenceIdeal.main_arg0), ?_, ?_⟩
  · refine (θ_run Cert.KernelIdeal.defs _ _).mono (fun _ h c => ⟨(h.1 c (1 : Fin 2)).trans ?_,
      (h.1 c (0 : Fin 2)).trans (Cert.KernelIdeal.AllToAll.finalA_x m ρ c)⟩) (Cert.KernelIdeal.AllToAll.run_main (F := Ideal) m ρ)
    exact (finalA_out m ρ c).trans (outOf_blocks _ _ (fun d => (xstg_eq m ρ d).trans (hagree d)) c)
  · exact (θ_run Cert.ReferenceIdeal.defs _ _).mono (fun _ h => ⟨h 0, h 0⟩) (run_reference (F := Ideal) m' ρ')

end Cert.AllToAll

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value

@[expose] public section

noncomputable section

namespace Cert.Proof

/-- Every claim about the kernel and its reference. -/
theorem claim : Cert.Claim :=
  ⟨Cert.Kernel.Gen.facts, Cert.KernelIdeal.Gen.facts, Cert.ReferenceIdeal.Gen.facts, Cert.AllToAll.frame_kernel,
    Cert.AllToAll.frame_ideal, Cert.AllToAll.frame_reference, trivial, Cert.AllToAll.value⟩

end Cert.Proof

end
